-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x8 : Shape := ⟨2, ![1024, 8]⟩
abbrev S8 : Shape := ⟨1, ![8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S1024x10 : Shape := ⟨2, ![1024, 10]⟩
abbrev S10 : Shape := ⟨1, ![10]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1x2048x1024 .f32) (main_arg1 : FVec F S1024x8 .f32) (main_arg2 : FVec F S8 .f32) (main_arg3 : FVec F S8x1024x2048 .f32) (main_arg4 : FVec F S8x2048 .f32) (main_arg5 : FVec F S8x2048x1024 .f32) (main_arg6 : FVec F S8x1024 .f32) (main_arg7 : FVec F S1024x10 .f32) (main_arg8 : FVec F S10 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S1x2048x1024 : Shape := ⟨3, ![1, 2048, 1024]⟩
abbrev S1024x8 : Shape := ⟨2, ![1024, 8]⟩
abbrev S8 : Shape := ⟨1, ![8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S1024x10 : Shape := ⟨2, ![1024, 10]⟩
abbrev S10 : Shape := ⟨1, ![10]⟩
abbrev S2048x1024 : Shape := ⟨2, ![2048, 1024]⟩
abbrev S1x8 : Shape := ⟨2, ![1, 8]⟩
abbrev S8x1x2048 : Shape := ⟨3, ![8, 1, 2048]⟩
abbrev S8x1x1024 : Shape := ⟨3, ![8, 1, 1024]⟩
abbrev S1x10 : Shape := ⟨2, ![1, 10]⟩
abbrev S1x1024x2048 : Shape := ⟨3, ![1, 1024, 2048]⟩
abbrev S1x1x2048 : Shape := ⟨3, ![1, 1, 2048]⟩
abbrev S1x1x1024 : Shape := ⟨3, ![1, 1, 1024]⟩
abbrev S2048x8 : Shape := ⟨2, ![2048, 8]⟩
abbrev S1x1024 : Shape := ⟨2, ![1, 1024]⟩
abbrev S2048 : Shape := ⟨1, ![2048]⟩
abbrev S2048x1 : Shape := ⟨2, ![2048, 1]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S1024x2048 : Shape := ⟨2, ![1024, 2048]⟩
abbrev S2048x2048 : Shape := ⟨2, ![2048, 2048]⟩
abbrev S1x2048 : Shape := ⟨2, ![1, 2048]⟩
abbrev S1x2048x1 : Shape := ⟨3, ![1, 2048, 1]⟩
abbrev S1 : Shape := ⟨1, ![1]⟩
abbrev S1x1x1 : Shape := ⟨3, ![1, 1, 1]⟩

abbrev nBuf : Space → Nat
  | .hbm => 15
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8, .f32⟩
  | .hbm, ⟨3, _⟩ => ⟨S8x1024x2048, .f32⟩
  | .hbm, ⟨4, _⟩ => ⟨S8x2048, .f32⟩
  | .hbm, ⟨5, _⟩ => ⟨S8x2048x1024, .f32⟩
  | .hbm, ⟨6, _⟩ => ⟨S8x1024, .f32⟩
  | .hbm, ⟨7, _⟩ => ⟨S1024x10, .f32⟩
  | .hbm, ⟨8, _⟩ => ⟨S10, .f32⟩
  | .hbm, ⟨9, _⟩ => ⟨S2048x1024, .f32⟩
  | .hbm, ⟨10, _⟩ => ⟨S1x8, .f32⟩
  | .hbm, ⟨11, _⟩ => ⟨S8x1x2048, .f32⟩
  | .hbm, ⟨12, _⟩ => ⟨S8x1x1024, .f32⟩
  | .hbm, ⟨13, _⟩ => ⟨S1x10, .f32⟩
  | .hbm, ⟨14, _⟩ => ⟨S1x10, .f32⟩
  | .local _ .vmem, ⟨0, _⟩ => ⟨S2048x1024, .f32⟩
  | .local _ .vmem, ⟨1, _⟩ => ⟨S1024x8, .f32⟩
  | .local _ .vmem, ⟨2, _⟩ => ⟨S1x8, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .f32⟩
  | .local _ .vmem, ⟨8, _⟩ => ⟨S1x2048x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x10, .f32⟩
  | .local _ .vmem, ⟨12, _⟩ => ⟨S1x10, .f32⟩
  | .local _ .vmem, ⟨13, _⟩ => ⟨S1x10, .f32⟩
  | .local _ .vmem, ⟨14, _⟩ => ⟨S2048x8, .f32⟩
  | .local _ .vmem, ⟨15, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x2048x1024 : Shape := ⟨3, ![1, 2048, 1024]⟩
abbrev S1024x8 : Shape := ⟨2, ![1024, 8]⟩
abbrev S8 : Shape := ⟨1, ![8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S1024x10 : Shape := ⟨2, ![1024, 10]⟩
abbrev S10 : Shape := ⟨1, ![10]⟩
abbrev S2048x1024 : Shape := ⟨2, ![2048, 1024]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2x2048 : Shape := ⟨2, ![2, 2048]⟩
abbrev S4096 : Shape := ⟨1, ![4096]⟩
abbrev S4096x1 : Shape := ⟨2, ![4096, 1]⟩
abbrev S4096x8 : Shape := ⟨2, ![4096, 8]⟩
abbrev S2048x1x1024 : Shape := ⟨3, ![2048, 1, 1024]⟩
abbrev S2048x2x1 : Shape := ⟨3, ![2048, 2, 1]⟩
abbrev S2048x2x1024 : Shape := ⟨3, ![2048, 2, 1024]⟩
abbrev S4096x1024 : Shape := ⟨2, ![4096, 1024]⟩
abbrev S8x640x1024 : Shape := ⟨3, ![8, 640, 1024]⟩
abbrev S4096x2 : Shape := ⟨2, ![4096, 2]⟩
abbrev S8x640x2048 : Shape := ⟨3, ![8, 640, 2048]⟩
abbrev S8x1x2048 : Shape := ⟨3, ![8, 1, 2048]⟩
abbrev S8x1x1024 : Shape := ⟨3, ![8, 1, 1024]⟩
abbrev S1x1024 : Shape := ⟨2, ![1, 1024]⟩
abbrev S1x10 : Shape := ⟨2, ![1, 10]⟩

abbrev nBuf : Space → Nat
  | .hbm => 142
  | .vmem => 0
  | .smem => 0
  | _ => 0

abbrev hbmTy0_0 (i : Nat) : BufTy := match i % 128 with
  | 0 => ⟨S1x2048x1024, .f32⟩
  | 1 => ⟨S1024x8, .f32⟩
  | 2 => ⟨S8, .f32⟩
  | 3 => ⟨S8x1024x2048, .f32⟩
  | 4 => ⟨S8x2048, .f32⟩
  | 5 => ⟨S8x2048x1024, .f32⟩
  | 6 => ⟨S8x1024, .f32⟩
  | 7 => ⟨S1024x10, .f32⟩
  | 8 => ⟨S10, .f32⟩
  | 9 => ⟨S2048x1024, .f32⟩
  | 10 => ⟨S2048x8, .f32⟩
  | 11 => ⟨S1x8, .f32⟩
  | 12 => ⟨S2048x8, .f32⟩
  | 13 => ⟨S2048x8, .f32⟩
  | 14 => ⟨S_, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S2048x8, .f32⟩
  | 21 => ⟨S2048x8, .f32⟩
  | 22 => ⟨S2048x8, .f32⟩
  | 23 => ⟨S_, .f32⟩
  | 24 => ⟨S2048, .f32⟩
  | 25 => ⟨S2048x1, .f32⟩
  | 26 => ⟨S2048x8, .f32⟩
  | 27 => ⟨S2048x8, .f32⟩
  | 28 => ⟨S2048x2, .f32⟩
  | 29 => ⟨S2048x2, .i32⟩
  | 30 => ⟨S_, .f32⟩
  | 31 => ⟨S2048, .f32⟩
  | 32 => ⟨S2048x1, .f32⟩
  | 33 => ⟨S2048x2, .f32⟩
  | 34 => ⟨S2048x2, .f32⟩
  | 35 => ⟨S2x2048, .i32⟩
  | 36 => ⟨S4096, .i32⟩
  | 37 => ⟨S4096x1, .i32⟩
  | 38 => ⟨S1x8, .i32⟩
  | 39 => ⟨S4096x8, .i32⟩
  | 40 => ⟨S4096x8, .i32⟩
  | 41 => ⟨S4096x8, .i1⟩
  | 42 => ⟨S4096x8, .i32⟩
  | 43 => ⟨S_, .i32⟩
  | 44 => ⟨S_, .i32⟩
  | 45 => ⟨S4096x8, .i32⟩
  | 46 => ⟨S_, .i32⟩
  | 47 => ⟨S4096x8, .i32⟩
  | 48 => ⟨S4096x8, .i32⟩
  | 49 => ⟨S4096x8, .i32⟩
  | 50 => ⟨S_, .i32⟩
  | 51 => ⟨S4096, .i32⟩
  | 52 => ⟨S_, .i32⟩
  | 53 => ⟨S4096, .i32⟩
  | 54 => ⟨S4096, .i1⟩
  | 55 => ⟨S2x2048, .i32⟩
  | 56 => ⟨S2048x2, .i32⟩
  | 57 => ⟨S2x2048, .i1⟩
  | 58 => ⟨S2048x2, .i1⟩
  | 59 => ⟨S4096, .i32⟩
  | 60 => ⟨S_, .i32⟩
  | 61 => ⟨S_, .i32⟩
  | 62 => ⟨S_, .i32⟩
  | 63 => ⟨S2048x2, .i32⟩
  | 64 => ⟨S2048x2, .i32⟩
  | 65 => ⟨S_, .i32⟩
  | 66 => ⟨S2048x2, .i32⟩
  | 67 => ⟨S2048x2, .i32⟩
  | 68 => ⟨S4096, .i32⟩
  | 69 => ⟨S2048x1x1024, .f32⟩
  | 70 => ⟨S2048x2x1, .i1⟩
  | 71 => ⟨S2048x2x1, .f32⟩
  | 72 => ⟨S2048x2x1024, .f32⟩
  | 73 => ⟨S2048x2x1024, .f32⟩
  | 74 => ⟨S2048x2x1024, .f32⟩
  | 75 => ⟨S4096x1024, .f32⟩
  | 76 => ⟨S_, .f32⟩
  | 77 => ⟨S8x640x1024, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x1, .i32⟩
  | 94 => ⟨S4096x2, .i32⟩
  | 95 => ⟨S8x640x1024, .f32⟩
  | 96 => ⟨S8x640x2048, .f32⟩
  | 97 => ⟨S8x1x2048, .f32⟩
  | 98 => ⟨S8x640x2048, .f32⟩
  | 99 => ⟨S8x640x2048, .f32⟩
  | 100 => ⟨S_, .f32⟩
  | 101 => ⟨S8x640x2048, .f32⟩
  | 102 => ⟨S8x640x2048, .f32⟩
  | 103 => ⟨S8x640x1024, .f32⟩
  | 104 => ⟨S8x1x1024, .f32⟩
  | 105 => ⟨S8x640x1024, .f32⟩
  | 106 => ⟨S8x640x1024, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096x1, .i32⟩
  | 123 => ⟨S4096x2, .i32⟩
  | 124 => ⟨S4096x1024, .f32⟩
  | 125 => ⟨S2048x2x1024, .f32⟩
  | 126 => ⟨S2048x2, .f32⟩
  | 127 => ⟨S2048x2, .f32⟩
  | _ => ⟨S1x2048x1024, .f32⟩

abbrev hbmTy0_1 (i : Nat) : BufTy := match i % 128 with
  | 0 => ⟨S2048x2x1, .f32⟩
  | 1 => ⟨S2048x2x1024, .f32⟩
  | 2 => ⟨S2048x2x1024, .f32⟩
  | 3 => ⟨S_, .f32⟩
  | 4 => ⟨S2048x1024, .f32⟩
  | 5 => ⟨S1x2048x1024, .f32⟩
  | 6 => ⟨S_, .f32⟩
  | 7 => ⟨S1x1024, .f32⟩
  | 8 => ⟨S_, .f32⟩
  | 9 => ⟨S1x1024, .f32⟩
  | 10 => ⟨S1x1024, .f32⟩
  | 11 => ⟨S1x10, .f32⟩
  | 12 => ⟨S1x10, .f32⟩
  | 13 => ⟨S1x10, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v22 : Ref sig .tc := ⟨.hbm, 42, rfl⟩
abbrev main_call1_call0_c : Ref sig .tc := ⟨.hbm, 43, rfl⟩
abbrev main_call1_call0_v0 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_c_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_c_8 : Ref sig .tc := ⟨.hbm, 78, rfl⟩
abbrev main_v45 : Ref sig .tc := ⟨.hbm, 79, rfl⟩
abbrev main_v46 : Ref sig .tc := ⟨.hbm, 80, rfl⟩
abbrev main_c_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_10 : Ref sig .tc := ⟨.hbm, 85, rfl⟩
abbrev main_v50 : Ref sig .tc := ⟨.hbm, 86, rfl⟩
abbrev main_v51 : Ref sig .tc := ⟨.hbm, 87, rfl⟩
abbrev main_c_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call3_cst : Ref sig .tc := ⟨.hbm, 100, rfl⟩
abbrev main_call3_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_12 : Ref sig .tc := ⟨.hbm, 107, rfl⟩
abbrev main_v68 : Ref sig .tc := ⟨.hbm, 108, rfl⟩
abbrev main_v69 : Ref sig .tc := ⟨.hbm, 109, rfl⟩
abbrev main_c_13 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_14 : Ref sig .tc := ⟨.hbm, 114, rfl⟩
abbrev main_v73 : Ref sig .tc := ⟨.hbm, 115, rfl⟩
abbrev main_v74 : Ref sig .tc := ⟨.hbm, 116, rfl⟩
abbrev main_c_15 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_16 : Ref sig .tc := ⟨.hbm, 131, rfl⟩
abbrev main_v88 : Ref sig .tc := ⟨.hbm, 132, rfl⟩
abbrev main_v89 : Ref sig .tc := ⟨.hbm, 133, rfl⟩
abbrev main_cst_17 : Ref sig .tc := ⟨.hbm, 134, rfl⟩
abbrev main_v90 : Ref sig .tc := ⟨.hbm, 135, rfl⟩
abbrev main_cst_18 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩

abbrev nD : Nat := 1
abbrev τ : Topo := Topo.v7x

variable {F : FTy → Type} [FloatOps F]
-- ==== Proof.KernelState.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

/-! # What the kernel's two scratch arrays and its result hold after each grid point -/

namespace Cert.KernelState

open Cert.KernelIdeal Cert.KernelIdeal.Gen Cert.KernelIdeal.Value
open Idealize.ShloMosaic Idealize.ShloMosaic.TcCoe Idealize.SL.Sem

variable {F : FTy → Type} [FloatOps F]
variable (m : (ℓ : Loc nD τ sig) → Buf (Elt F) ℓ)

/-- The routing matrix the first grid point stores, from the blocks of the tokens, the router's matrix and its bias. -/
def routing (x : Vec F S2048x1024 .f32) (wr : Vec F S1024x8 .f32) (br : Vec F S1x8 .f32) : Vec F S2048x8 .f32 :=
  k0_pay17 (k0_pay8 x wr br) (k0_pay9 x wr br) (k0_pay11 (k0_pay4 x wr br) (k0_pay7 x wr br))
    (k0_pay12 (k0_pay4 x wr br) (k0_pay7 x wr br)) (k0_pay14 (k0_pay8 x wr br)) (k0_pay15 (k0_pay9 x wr br))
    (k0_pay16 (k0_pay8 x wr br) (k0_pay13 (k0_pay8 x wr br)))

/-- The first point leaves the routing matrix in its scratch array. -/
theorem first_routing (c : Dev nD) (t : Fin cfg0.N) (h0 : t.val % 8 = 0)
    (acc : Vec F S1x10 .f32 × Vec F S2048x8 .f32 × Vec F S1x1024 .f32) :
    (stAt0 m c t.val t.isLt acc).2.1 = routing (iblk m c 0 t) (iblk m c 1 t) (iblk m c 2 t) := by
  rw [stAt0_A m c t acc h0 (by omega)]
  frame_out
  rfl

/-- The first point clears the accumulator and adds its expert's share. -/
theorem first_acc (c : Dev nD) (t : Fin cfg0.N) (h0 : t.val % 8 = 0)
    (acc : Vec F S1x10 .f32 × Vec F S2048x8 .f32 × Vec F S1x1024 .f32) :
    (stAt0 m c t.val t.isLt acc).2.2 =
      k0_pay1 (k0_pay20 (grid0.coords t) (routing (iblk m c 0 t) (iblk m c 1 t) (iblk m c 2 t))) k0_pay18
        (k0_pay21 (grid0.coords t) (routing (iblk m c 0 t) (iblk m c 1 t) (iblk m c 2 t)) (iblk m c 0 t) (iblk m c 3 t) (iblk m c 4 t) (iblk m c 5 t)) (iblk m c 6 t) := by
  rw [stAt0_A m c t acc h0 (by omega)]
  frame_out
  rfl

/-- Every later point adds its expert's share to the accumulator. -/
theorem step_acc (c : Dev nD) (t : Fin cfg0.N) (h0 : ¬ t.val % 8 = 0)
    (acc : Vec F S1x10 .f32 × Vec F S2048x8 .f32 × Vec F S1x1024 .f32) :
    (stAt0 m c t.val t.isLt acc).2.2 =
      k0_pay1 (k0_pay20 (grid0.coords t) acc.2.1) acc.2.2
        (k0_pay21 (grid0.coords t) acc.2.1 (iblk m c 0 t) (iblk m c 3 t) (iblk m c 4 t) (iblk m c 5 t)) (iblk m c 6 t) := by
  by_cases h1 : t.val % 8 = 7
  · rw [stAt0_C m c t acc h0 h1]
    frame_out
    simp only [read_unread_whole]
  · rw [stAt0_B m c t acc h0 h1]
    frame_out
    simp only [read_unread_whole]

/-- No later point changes the routing matrix. -/
theorem step_routing (c : Dev nD) (t : Fin cfg0.N) (h0 : ¬ t.val % 8 = 0)
    (acc : Vec F S1x10 .f32 × Vec F S2048x8 .f32 × Vec F S1x1024 .f32) :
    (stAt0 m c t.val t.isLt acc).2.1 = acc.2.1 := by
  by_cases h1 : t.val % 8 = 7
  · rw [stAt0_C m c t acc h0 h1]
    rfl
  · rw [stAt0_B m c t acc h0 h1]
    rfl

/-- The last point's output is the classifier on the accumulator it leaves. -/
theorem last_out (c : Dev nD) (t : Fin cfg0.N) (h1 : t.val % 8 = 7)
    (acc : Vec F S1x10 .f32 × Vec F S2048x8 .f32 × Vec F S1x1024 .f32) :
    (stAt0 m c t.val t.isLt acc).1 = k0_pay2 (stAt0 m c t.val t.isLt acc).2.2 (iblk m c 7 t) (iblk m c 8 t) := by
  rw [step_acc m c t (by omega) acc, stAt0_C m c t acc (by omega) h1]
  frame_out
  simp only [read_unread_whole]

end Cert.KernelState
-- ==== Proof.KernelBlocks.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

/-! # The blocks one grid point reads, as elements of the argument arrays -/

namespace Cert.KernelBlocks

open Cert.KernelIdeal Cert.KernelIdeal.Gen Cert.KernelIdeal.Value
open Idealize.ShloMosaic Idealize.ShloMosaic.TcCoe Idealize.SL.Sem Idealize.ShloMosaic.Pointwise

variable (m : (ℓ : Loc nD τ sig) → Buf (Elt Ideal) ℓ) (c : Dev nD) (t : Fin cfg0.N)

/-- The block of every array that each grid point names, and the point's own coordinate. -/
theorem idx : ∀ t : Fin grid0.N,
    win0_0.index t = ![0, 0] ∧ win0_1.index t = ![0, 0] ∧ win0_2.index t = ![0, 0]
    ∧ win0_3.index t = ![t.val, 0, 0] ∧ win0_4.index t = ![t.val, 0, 0] ∧ win0_5.index t = ![t.val, 0, 0]
    ∧ win0_6.index t = ![t.val, 0, 0] ∧ win0_7.index t = ![0, 0] ∧ win0_8.index t = ![0, 0]
    ∧ (grid0.coords t 0).val = t.val := by
  decide +kernel

/-- Every point reads all the tokens. -/
theorem tokens (a : Fin 2048) (d : Fin 1024) :
    iblk m c 0 t (ix2 a d) = m ((c : Thread nD τ).loc main_arg0) (ix3 0 a d) := by
  blk_point [iblk, V, idx t]

/-- Every point reads the router's matrix. -/
theorem wr (d : Fin 1024) (e : Fin 8) :
    iblk m c 1 t (ix2 d e) = m ((c : Thread nD τ).loc main_arg1) (ix2 d e) := by
  blk_point [iblk, V, idx t]

/-- Every point reads the router's bias. -/
theorem br (e : Fin 8) :
    iblk m c 2 t (ix2 0 e) = m ((c : Thread nD τ).loc main_arg2) (ix1 e) := by
  blk_point [iblk, V, idx t]

/-- Point `t` reads expert `t`'s first matrix. -/
theorem w1 (d : Fin 1024) (f : Fin 2048) :
    iblk m c 3 t (ix3 0 d f) = m ((c : Thread nD τ).loc main_arg3) (ix3 (t.cast N_0) d f) := by
  blk_point [iblk, V, idx t]
  rfl

/-- Point `t` reads expert `t`'s first bias. -/
theorem b1 (f : Fin 2048) :
    iblk m c 4 t (ix3 0 0 f) = m ((c : Thread nD τ).loc main_arg4) (ix2 (t.cast N_0) f) := by
  blk_point [iblk, V, idx t]

/-- Point `t` reads expert `t`'s second matrix. -/
theorem w2 (f : Fin 2048) (d : Fin 1024) :
    iblk m c 5 t (ix3 0 f d) = m ((c : Thread nD τ).loc main_arg5) (ix3 (t.cast N_0) f d) := by
  blk_point [iblk, V, idx t]
  rfl

/-- Point `t` reads expert `t`'s second bias. -/
theorem b2 (d : Fin 1024) :
    iblk m c 6 t (ix3 0 0 d) = m ((c : Thread nD τ).loc main_arg6) (ix2 (t.cast N_0) d) := by
  blk_point [iblk, V, idx t]

/-- Every point reads the classifier's matrix. -/
theorem wc (d : Fin 1024) (n : Fin 10) :
    iblk m c 7 t (ix2 d n) = m ((c : Thread nD τ).loc main_arg7) (ix2 d n) := by
  blk_point [iblk, V, idx t]

/-- Every point reads the classifier's bias. -/
theorem bc (n : Fin 10) :
    iblk m c 8 t (ix2 0 n) = m ((c : Thread nD τ).loc main_arg8) (ix1 n) := by
  blk_point [iblk, V, idx t]

end Cert.KernelBlocks
-- ==== Proof.Numbers.lean ====
module

public import Idealize.ShloMosaic.PureOps.Ideal.Laws
public import Idealize.ShloMosaic.PureOps.Reduce
public import Mathlib.Data.EReal.Operations
public import Mathlib.Data.EReal.Inv

@[expose] public section

/-! # The programs' constants, and counts as extended reals -/

namespace Cert.Numbers

open Idealize.ShloMosaic

/-- The word for minus infinity. -/
theorem bits_bot : Ideal.ofBits .f32 4286578688#32 = ⊥ := by simp [Ideal.ofBits, Ideal.ieee]

/-- The word for plus infinity. -/
theorem bits_top : Ideal.ofBits .f32 2139095040#32 = ⊤ := by simp [Ideal.ofBits, Ideal.ieee]

/-- The word for minus one. -/
theorem bits_neg_one : Ideal.ofBits .f32 3212836864#32 = ((-1 : ℝ) : EReal) := by
  simp [Ideal.ofBits, Ideal.ieee, -EReal.coe_mul, -EReal.coe_neg]; norm_num

/-- The word for the capacity, 640. -/
theorem bits_capacity : Ideal.ofBits .f32 1142947840#32 = ((640 : ℝ) : EReal) := by
  simp [Ideal.ofBits, Ideal.ieee, -EReal.coe_mul]; norm_num

/-- A count of ones. -/
theorem sum_ones {ι : Type} (s : Finset ι) (P : ι → Prop) [DecidablePred P] :
    ∑ i ∈ s, (if P i then (1 : EReal) else 0) = (((∑ i ∈ s, if P i then 1 else 0 : ℕ) : ℝ) : EReal) := by
  classical
  induction s using Finset.induction_on with
  | empty => simp
  | insert a s ha ih =>
    rw [Finset.sum_insert ha, Finset.sum_insert ha, ih, Nat.cast_add, EReal.coe_add]
    split <;> simp

/-- A count is below the capacity as a number exactly when it is as an extended real. -/
theorem count_lt (n : ℕ) : ((n : ℝ) : EReal) < ((640 : ℝ) : EReal) ↔ n < 640 := by
  rw [EReal.coe_lt_coe_iff]
  exact_mod_cast Iff.rfl

/-- A yes-or-no word, widened and read as a signed integer. -/
theorem sitofp_bool (b : Bool) : (FloatOps.sitofp (F := Ideal) .f32 (BitVec.setWidth 32 (BitVec.ofBool b)) : EReal)
    = if b then 1 else 0 := by
  show ((((BitVec.setWidth 32 (BitVec.ofBool b)).toInt : ℝ)) : EReal) = _
  cases b
  · simp
  · simp

/-- A yes-or-no word read as an unsigned integer. -/
theorem uitofp_bool (b : Bool) : (FloatOps.uitofp (F := Ideal) .f32 (BitVec.ofBool b) : EReal) = if b then 1 else 0 := by
  show ((((BitVec.ofBool b).toNat : ℝ)) : EReal) = _
  cases b <;> simp

/-- Equality of words, as a yes-or-no word. -/
theorem cmpi_eq {w : ℕ} (a b : BitVec w) : IntOp.cmpi .eq a b = BitVec.ofBool (decide (a = b)) := rfl

/-- The words of two expert numbers are equal exactly when the numbers are. -/
theorem expert_inj : ∀ a b : Fin 8, (BitVec.ofNat 32 a.val = BitVec.ofNat 32 b.val) ↔ a = b := by decide

end Cert.Numbers
-- ==== Proof.SoftmaxRow.lean ====
module

public import Idealize.ShloMosaic.PureOps.Ideal.Laws
public import Mathlib.Data.EReal.Operations
public import Mathlib.Data.EReal.Inv
public import Mathlib.Data.Finset.Lattice.Fold

@[expose] public section

noncomputable section

/-! # A row of routing probabilities

The softmax of a row of eight logits over the extended reals. Where no logit is `⊤` and not all are `⊥`, the
probabilities are real, none is negative and one is positive. Otherwise every probability is `⊥`. -/

namespace Cert.SoftmaxRow

open Idealize.ShloMosaic

/-- The softmax of a row: exponentials of the logits less the largest, each over their sum. -/
def softmax (l : Fin 8 → EReal) (e : Fin 8) : EReal :=
  Ideal.div (Ideal.exp (l e - Finset.univ.fold max ⊥ l)) (∑ k, Ideal.exp (l k - Finset.univ.fold max ⊥ l))

/-- The exponential of `⊥` is zero. -/
theorem exp_bot : Ideal.exp ⊥ = 0 := rfl

/-- The exponential of a real is the real exponential. -/
theorem exp_real (r : ℝ) : Ideal.exp (r : EReal) = (Real.exp r : EReal) := rfl

/-- Any extended real over `⊥` is zero. -/
theorem div_bot (x : EReal) : Ideal.div x ⊥ = 0 := by
  rw [Ideal.div, if_neg (by simp), EReal.inv_bot, mul_zero]

/-- Zero over zero is `⊥`. -/
theorem zero_div_zero : Ideal.div 0 0 = ⊥ := by
  rw [Ideal.div, if_pos rfl, if_neg (lt_irrefl _)]

/-- A nonnegative real over a positive real is a nonnegative real. -/
theorem div_real {a b : EReal} (ha : 0 ≤ a) (ha' : a ≠ ⊤) (hb : 0 < b) (hb' : b ≠ ⊤) :
    0 ≤ Ideal.div a b ∧ Ideal.div a b ≠ ⊤ ∧ (0 < a → 0 < Ideal.div a b) := by
  lift a to ℝ using ⟨ha', fun h => by simp [h] at ha⟩
  lift b to ℝ using ⟨hb', fun h => by simp [h] at hb⟩
  have hb0 : 0 < b := by exact_mod_cast hb
  have ha0 : 0 ≤ a := by exact_mod_cast ha
  rw [Ideal.div_coe hb0.ne', ← EReal.coe_mul]
  refine ⟨by exact_mod_cast (by positivity : 0 ≤ a * (1 / b)), EReal.coe_ne_top _, fun h => ?_⟩
  have h0 : 0 < a := by exact_mod_cast h
  exact_mod_cast (by positivity : 0 < a * (1 / b))

/-- A finite sum of reals that are not negative is real and not negative, and at least each term. -/
theorem sum_real {ι : Type} (s : Finset ι) (f : ι → EReal) (h : ∀ i ∈ s, 0 ≤ f i ∧ f i ≠ ⊤) :
    0 ≤ ∑ i ∈ s, f i ∧ ∑ i ∈ s, f i ≠ ⊤ := by
  classical
  induction s using Finset.induction_on with
  | empty => simp
  | insert a s ha ih =>
    rw [Finset.sum_insert ha]
    have h1 := h a (Finset.mem_insert_self a s)
    have h2 := ih fun i hi => h i (Finset.mem_insert_of_mem hi)
    exact ⟨add_nonneg h1.1 h2.1, EReal.add_ne_top h1.2 h2.2⟩

/-- Where no logit is `⊤` and one is not `⊥`, the probabilities are real, none is negative, and one is positive. -/
theorem softmax_good (l : Fin 8 → EReal) (ht : ∀ e, l e ≠ ⊤) (hb : ∃ e, l e ≠ ⊥) :
    (∀ e, 0 ≤ softmax l e ∧ softmax l e ≠ ⊤) ∧ ∃ e, 0 < softmax l e := by
  obtain ⟨e₀, -, he₀⟩ := Finset.exists_mem_eq_sup (Finset.univ : Finset (Fin 8)) ⟨0, Finset.mem_univ 0⟩ l
  have hM : Finset.univ.fold max ⊥ l = l e₀ := he₀
  have hle : ∀ e, l e ≤ l e₀ := fun e => hM ▸ Finset.le_sup (f := l) (Finset.mem_univ e)
  have hb₀ : l e₀ ≠ ⊥ := by
    obtain ⟨e, he⟩ := hb
    intro h
    exact he (le_bot_iff.1 (h ▸ hle e))
  have hexp : ∀ e, 0 ≤ Ideal.exp (l e - l e₀) ∧ Ideal.exp (l e - l e₀) ≠ ⊤ := by
    intro e
    obtain ⟨μ, hμ⟩ : ∃ μ : ℝ, l e₀ = μ := ⟨(l e₀).toReal, (EReal.coe_toReal (ht e₀) hb₀).symm⟩
    rw [hμ]
    have hte := ht e
    generalize l e = y at hte
    induction y with
    | bot => rw [sub_eq_add_neg, EReal.bot_add, exp_bot]; exact ⟨le_rfl, EReal.zero_ne_top⟩
    | top => exact absurd rfl hte
    | coe r =>
      rw [← EReal.coe_sub, exp_real]
      exact ⟨by exact_mod_cast (Real.exp_pos _).le, EReal.coe_ne_top _⟩
  have hone : Ideal.exp (l e₀ - l e₀) = 1 := by
    obtain ⟨μ, hμ⟩ : ∃ μ : ℝ, l e₀ = μ := ⟨(l e₀).toReal, (EReal.coe_toReal (ht e₀) hb₀).symm⟩
    rw [hμ, ← EReal.coe_sub, sub_self, exp_real, Real.exp_zero, EReal.coe_one]
  have hsum := sum_real Finset.univ (fun k => Ideal.exp (l k - l e₀)) fun k _ => hexp k
  have hpos : 0 < ∑ k, Ideal.exp (l k - l e₀) := by
    refine lt_of_lt_of_le (zero_lt_one) (hone ▸ Finset.single_le_sum (f := fun k => Ideal.exp (l k - l e₀)) (fun k _ => (hexp k).1) (Finset.mem_univ e₀))
  unfold softmax
  rw [hM]
  refine ⟨fun e => ?_, e₀, ?_⟩
  · have := div_real (hexp e).1 (hexp e).2 hpos hsum.2
    exact ⟨this.1, this.2.1⟩
  · exact (div_real (hexp e₀).1 (hexp e₀).2 hpos hsum.2).2.2 (hone ▸ zero_lt_one)

/-- Where a logit is `⊤`, or all are `⊥`, every probability is `⊥`. -/
theorem softmax_bad (l : Fin 8 → EReal) (h : (∃ e, l e = ⊤) ∨ ∀ e, l e = ⊥) (e : Fin 8) : softmax l e = ⊥ := by
  have hsub : ∀ k, l k - Finset.univ.fold max ⊥ l = ⊥ := by
    intro k
    rcases h with ⟨e', he'⟩ | hall
    · have hM : Finset.univ.fold max ⊥ l = ⊤ :=
        top_le_iff.1 (he' ▸ Finset.le_sup (f := l) (Finset.mem_univ e'))
      rw [hM, sub_eq_add_neg, EReal.neg_top, EReal.add_bot]
    · rw [hall k, sub_eq_add_neg, EReal.bot_add]
  unfold softmax
  simp only [hsub, exp_bot, Finset.sum_const_zero, zero_div_zero]

end Cert.SoftmaxRow
-- ==== Proof.TopTwo.lean ====
module

public import Idealize.ShloMosaic.Lib.SortFacts
public import Idealize.ShloMosaic.Lib.PlanTiles.StableSort
public import Idealize.ShloMosaic.PureOps.Reduce
public import Mathlib.Data.EReal.Operations
public import Mathlib.Data.Finset.Lattice.Fold

@[expose] public section

/-! # The two largest entries of a row of eight

Both programs pick, in each row of eight probabilities, the largest and the second largest entry, and of equal entries
the one at the lower index. This module says what that choice is and that three ways of making it agree: the largest
entry with the least index that attains it, the same again with the first choice masked by a negative number, and a
stable sort by descending value. -/

namespace Cert.TopTwo

open Idealize.ShloMosaic

/-- `i` is the place of the row's largest entry, the first one where several are equal. -/
def IsFirstMax (q : Fin 8 → EReal) (i : Fin 8) : Prop := ∀ k, q k ≤ q i ∧ (q k = q i → i ≤ k)

/-- `i` and `j` are the places of the row's largest and second largest entry, by index among equals. -/
structure IsTopTwo (p : Fin 8 → EReal) (i j : Fin 8) : Prop where
  ne : j ≠ i
  first : IsFirstMax p i
  second : ∀ k, k ≠ i → p k ≤ p j ∧ (p k = p j → j ≤ k)

/-- The maximum of a row, taken from `⊥`, is the entry at the place of its largest. -/
theorem fold_max_eq {q : Fin 8 → EReal} {i : Fin 8} (h : IsFirstMax q i) : Finset.univ.fold max ⊥ q = q i :=
  le_antisymm (Finset.sup_le (s := Finset.univ) (f := q) fun k _ => (h k).1) (Finset.le_sup (f := q) (Finset.mem_univ i))

/-- An expert's word, read signed, is its index. -/
theorem toInt_index : ∀ k : Fin 8, (BitVec.ofNat 32 k.val).toInt = (k.val : ℤ) := by decide

/-- A word is at most the signed minimum of two exactly when it is at most each. -/
theorem le_minsi {x y z : BitVec 32} : x.toInt ≤ (IntOp.minsi y z).toInt ↔ x.toInt ≤ y.toInt ∧ x.toInt ≤ z.toInt := by
  unfold IntOp.minsi
  split
  · next h => rw [BitVec.slt_iff_toInt_lt] at h; omega
  · next h => rw [BitVec.slt_iff_toInt_lt] at h; omega

/-- The least index at which a row attains its largest entry, computed in words with 8 where it does not. -/
theorem fold_minsi_eq {q : Fin 8 → EReal} {i : Fin 8} (h : IsFirstMax q i) (P : Fin 8 → Prop) [DecidablePred P]
    (hP : ∀ k, P k ↔ q k = q i) :
    Finset.univ.fold IntOp.minsi 2147483647#32 (fun k : Fin 8 => if P k then BitVec.ofNat 32 k.val else 8#32)
      = BitVec.ofNat 32 i.val := by
  have key := fun c : BitVec 32 => Finset.fold_op_rel_iff_and (s := (Finset.univ : Finset (Fin 8))) (op := IntOp.minsi)
    (b := 2147483647#32) (f := fun k : Fin 8 => if P k then BitVec.ofNat 32 k.val else 8#32)
    (r := fun x y : BitVec 32 => x.toInt ≤ y.toInt) le_minsi (c := c)
  apply BitVec.eq_of_toInt_eq
  apply le_antisymm
  · have := ((key _).1 le_rfl).2 i (Finset.mem_univ i)
    simpa only [(hP i).2 rfl, if_true] using this
  · refine (key _).2 ⟨?_, fun k _ => ?_⟩
    · rw [toInt_index]
      have := i.isLt
      have e : (2147483647#32).toInt = 2147483647 := by decide
      omega
    · have := i.isLt
      split
      · next hk => rw [toInt_index, toInt_index]; exact_mod_cast (h k).2 ((hP k).1 hk)
      · rw [toInt_index]
        have e : (8#32).toInt = 8 := by decide
        omega

/-- With the largest entry of a row of nonnegative entries masked by a negative number, the largest is the second. -/
theorem IsTopTwo.masked {p : Fin 8 → EReal} {i j : Fin 8} (h : IsTopTwo p i j) (hp : ∀ k, 0 ≤ p k) {c : EReal} (hc : c < 0) :
    IsFirstMax (fun k => if k = i then c else p k) j := by
  intro k
  simp only [if_neg h.ne]
  by_cases e : k = i
  · simp only [if_pos e]
    have := hc.trans_le (hp j)
    exact ⟨this.le, fun e' => absurd e' this.ne⟩
  · simp only [if_neg e]
    exact h.second k e

/-- How many entries of a row are below the one at `a`: a key in natural numbers that orders the row as its entries do. -/
noncomputable def below (p : Fin 8 → EReal) (a : Fin 8) : ℕ := (Finset.univ.filter fun b => p b < p a).card

/-- The rank among the entries follows the order of the entries. -/
theorem below_lt (p : Fin 8 → EReal) (a b : Fin 8) : below p a < below p b ↔ p a < p b := by
  constructor
  · intro h
    by_contra hle
    rw [not_lt] at hle
    refine absurd h (not_lt.2 (Finset.card_le_card fun c hc => ?_))
    simp only [Finset.mem_filter, Finset.mem_univ, true_and] at hc ⊢
    exact hc.trans_le hle
  · intro h
    refine Finset.card_lt_card ⟨fun c hc => ?_, fun hs => ?_⟩
    · simp only [Finset.mem_filter, Finset.mem_univ, true_and] at hc ⊢
      exact hc.trans h
    · have := hs (Finset.mem_filter.2 ⟨Finset.mem_univ a, h⟩)
      simp at this

/-- Entries of one rank are equal. -/
theorem below_eq (p : Fin 8 → EReal) {a b : Fin 8} (h : below p a = below p b) : p a = p b :=
  le_antisymm (not_lt.1 fun q => by have := (below_lt p b a).2 q; omega) (not_lt.1 fun q => by have := (below_lt p a b).2 q; omega)

/-- A stable sort by descending value leaves each place after those of greater entries and of equal ones before it. -/
theorem sortedFrom_order (p : Fin 8 → EReal) (R : Fin 8 → Fin 8 → Bool) (hR : ∀ a b, R a b = true ↔ p b < p a) (x y : Fin 8)
    (hxy : x < y) : p (sortedFrom R y) < p (sortedFrom R x) ∨ (p (sortedFrom R x) = p (sortedFrom R y) ∧ sortedFrom R x < sortedFrom R y) := by
  have e : R = fun a b => decide (below p b < below p a) := by
    funext a b
    rw [Bool.eq_iff_iff, hR, decide_eq_true_iff, below_lt]
  subst e
  have hs := PlanTiles.pairwise_stableSort_lex (below p) (· < ·) (List.finRange 8) (List.pairwise_lt_finRange 8)
  have hg := List.pairwise_iff_get.mp hs (x.cast (length_sortPositions 8 _).symm) (y.cast (length_sortPositions 8 _).symm) hxy
  rcases hg with h | ⟨h, h'⟩
  · exact Or.inl ((below_lt p _ _).1 h)
  · exact Or.inr ⟨below_eq p h, h'⟩

/-- The first two places of a stable sort by descending value are those of the two largest entries. -/
theorem isTopTwo_sortedFrom (p : Fin 8 → EReal) (R : Fin 8 → Fin 8 → Bool) (hR : ∀ a b, R a b = true ↔ p b < p a) :
    IsTopTwo p (sortedFrom R 0) (sortedFrom R 1) := by
  have ord : ∀ x y : Fin 8, x ≤ y → p (sortedFrom R y) ≤ p (sortedFrom R x)
      ∧ (p (sortedFrom R y) = p (sortedFrom R x) → sortedFrom R x ≤ sortedFrom R y) := by
    intro x y hxy
    rcases hxy.eq_or_lt with rfl | hlt
    · exact ⟨le_rfl, fun _ => le_rfl⟩
    · rcases sortedFrom_order p R hR x y hlt with h | ⟨h, h'⟩
      · exact ⟨h.le, fun e => absurd e h.ne⟩
      · exact ⟨h.ge, fun _ => h'.le⟩
  refine ⟨fun e => absurd (sortedFrom_injective R e) (by decide), fun k => ?_, fun k hk => ?_⟩
  · obtain ⟨y, rfl⟩ := sortedFrom_surjective R k
    exact ord 0 y (Fin.zero_le y)
  · obtain ⟨y, rfl⟩ := sortedFrom_surjective R k
    refine ord 1 y ?_
    have : y ≠ 0 := fun e => hk (by rw [e])
    rw [Fin.le_def]
    have h0 : y.val ≠ 0 := fun e => this (Fin.ext e)
    show 1 ≤ y.val
    omega

end Cert.TopTwo
-- ==== Proof.KernelRouting.lean ====
module

public import proofs.«01_k».proof.Proof.Gen.KernelIdeal.Skeleton
public import proofs.«01_k».proof.Proof.Numbers
public import proofs.«01_k».proof.Proof.SoftmaxRow
public import proofs.«01_k».proof.Proof.TopTwo
public import Idealize.ShloMosaic.Lib.Pointwise

@[expose] public section

set_option maxRecDepth 16384

noncomputable section

/-! # The kernel's choice of experts, element by element -/

namespace Cert.KernelRouting

open Cert.KernelIdeal Cert.KernelIdeal.Gen Cert.Numbers Cert.SoftmaxRow Cert.TopTwo
open Idealize.ShloMosaic Idealize.SL.Sem Idealize.ShloMosaic.Pointwise

variable (x : Vec Ideal S2048x1024 .f32) (wr : Vec Ideal S1024x8 .f32) (br : Vec Ideal S1x8 .f32)

/-- A token's logits. -/
def logit (t : Fin 2048) (e : Fin 8) : EReal := ∑ d : Fin 1024, x (ix2 t d) * wr (ix2 d e) + br (ix2 0 e)

/-- The probabilities are the softmax of the logits. -/
theorem probs_eq (t : Fin 2048) (e : Fin 8) : k0_pay3 x wr br (ix2 t e) = softmax (logit x wr br t) e := by
  pointwise [k0_pay3]
  rw [bits_bot]
  rfl

/-- The largest probability of a row, as a maximum. -/
theorem largest_fold (t : Fin 2048) :
    k0_pay4 x wr br (ix2 t 0) = Finset.univ.fold max ⊥ (fun e : Fin 8 => (k0_pay3 x wr br (ix2 t e) : EReal)) := by
  pointwise [k0_pay4]
  rw [bits_bot]

/-- The second largest, as the maximum of the masked row. -/
theorem second_fold (t : Fin 2048) :
    k0_pay7 x wr br (ix2 t 0) = Finset.univ.fold max ⊥ (fun e : Fin 8 => (k0_pay6 x wr br (ix2 t e) : EReal)) := by
  pointwise [k0_pay7]
  rw [bits_bot]

section Row
variable (t : Fin 2048) {i j : Fin 8}

/-- The largest probability is the one at its first place. -/
theorem largest_eq (hi : IsFirstMax (softmax (logit x wr br t)) i) : k0_pay4 x wr br (ix2 t 0) = softmax (logit x wr br t) i := by
  rw [largest_fold]
  simp only [probs_eq]
  exact fold_max_eq hi

/-- The first choice is the first place of the largest. -/
theorem mask_eq (hi : IsFirstMax (softmax (logit x wr br t)) i) (e : Fin 8) :
    k0_pay5 x wr br (ix2 t e) = BitVec.ofBool (decide (e = i)) := by
  pointwise [k0_pay5]
  simp only [largest_eq x wr br t hi, probs_eq]
  rw [fold_minsi_eq hi _ fun k => Iff.rfl, cmpi_eq]
  simp only [expert_inj]

/-- The first choice as ones and zeros. -/
theorem first_eq (hi : IsFirstMax (softmax (logit x wr br t)) i) (e : Fin 8) :
    (k0_pay8 x wr br (ix2 t e) : EReal) = if e = i then 1 else 0 := by
  pointwise [k0_pay8]
  rw [mask_eq x wr br t hi, sitofp_bool]
  simp

/-- The masked row holds minus one at the first choice. -/
theorem masked_eq (hi : IsFirstMax (softmax (logit x wr br t)) i) (e : Fin 8) :
    (k0_pay6 x wr br (ix2 t e) : EReal) = if e = i then ((-1 : ℝ) : EReal) else softmax (logit x wr br t) e := by
  pointwise [k0_pay6]
  rw [mask_eq x wr br t hi, probs_eq, bits_neg_one]
  by_cases he : e = i
  · rw [decide_eq_true he, if_pos he]; rfl
  · rw [decide_eq_false he, if_neg he]; rfl

/-- The masked row is largest at the second choice. -/
theorem masked_max (h : IsTopTwo (softmax (logit x wr br t)) i j) (hp : ∀ e, 0 ≤ softmax (logit x wr br t) e) :
    IsFirstMax (fun e => if e = i then ((-1 : ℝ) : EReal) else softmax (logit x wr br t) e) j :=
  h.masked hp (by exact_mod_cast (by norm_num : (-1 : ℝ) < 0))

/-- The second largest probability is the one at the second choice. -/
theorem second_eq (h : IsTopTwo (softmax (logit x wr br t)) i j) (hp : ∀ e, 0 ≤ softmax (logit x wr br t) e) :
    k0_pay7 x wr br (ix2 t 0) = softmax (logit x wr br t) j := by
  rw [second_fold]
  simp only [masked_eq x wr br t h.first]
  rw [fold_max_eq (masked_max x wr br t h hp)]
  exact if_neg h.ne

/-- The second choice as ones and zeros. -/
theorem second_mask_eq (h : IsTopTwo (softmax (logit x wr br t)) i j) (hp : ∀ e, 0 ≤ softmax (logit x wr br t) e) (e : Fin 8) :
    (k0_pay9 x wr br (ix2 t e) : EReal) = if e = j then 1 else 0 := by
  pointwise [k0_pay9]
  simp only [second_eq x wr br t h hp, masked_eq x wr br t h.first]
  rw [fold_minsi_eq (masked_max x wr br t h hp) _ fun k => by simp only [if_neg h.ne], cmpi_eq, sitofp_bool]
  simp only [expert_inj, decide_eq_true_eq]

end Row

/-- The weights of both choices before the capacity is looked at. -/
theorem shares_eq (p q : FVec Ideal S2048x1 .f32) (t : Fin 2048) :
    (k0_pay11 p q (ix2 t 0) : EReal) = Ideal.div (p (ix2 t 0)) (p (ix2 t 0) + q (ix2 t 0))
      ∧ (k0_pay12 p q (ix2 t 0) : EReal) = Ideal.div (q (ix2 t 0)) (p (ix2 t 0) + q (ix2 t 0)) := by
  constructor
  · pointwise [k0_pay11, k0_pay10]
  · pointwise [k0_pay12, k0_pay10]

/-- How many tokens chose an expert first. -/
theorem totals_eq (v : FVec Ideal S2048x8 .f32) (e : Fin 8) : (k0_pay14 v (ix2 0 e) : EReal) = ∑ s : Fin 2048, (v (ix2 s e) : EReal) := by
  pointwise [k0_pay14]

/-- A token's counts, kept only at its own choice. -/
theorem own_eq (v w : FVec Ideal S2048x8 .f32) (t : Fin 2048) (e : Fin 8) :
    (k0_pay16 v w (ix2 t e) : EReal) = w (ix2 t e) * v (ix2 t e) := by
  pointwise [k0_pay16]

/-- The routing matrix from the choices, the shares and the counts. -/
theorem assemble_eq (a b : FVec Ideal S2048x8 .f32) (p q : FVec Ideal S2048x1 .f32) (n : FVec Ideal S1x8 .f32)
    (v u : FVec Ideal S2048x8 .f32) (t : Fin 2048) (e : Fin 8) :
    (k0_pay17 a b p q n v u (ix2 t e) : EReal)
      = p (ix2 t 0) * (if (∑ k : Fin 8, (u (ix2 t k) : EReal)) < ((640 : ℝ) : EReal) then 1 else 0) * a (ix2 t e)
        + q (ix2 t 0) * (if (∑ k : Fin 8, ((v (ix2 t k) : EReal) + n (ix2 0 k)) * b (ix2 t k)) < ((640 : ℝ) : EReal) then 1 else 0) * b (ix2 t e) := by
  pointwise [k0_pay17]
  simp only [sitofp_bool, bits_capacity, decide_eq_true_eq]

end Cert.KernelRouting
-- ==== Proof.Places.lean ====
module

public import Mathlib.Algebra.BigOperators.Fin
public import Mathlib.Algebra.Order.BigOperators.Group.Finset
public import Mathlib.Algebra.BigOperators.Group.Finset.Basic
public import Mathlib.Data.Fintype.Card

@[expose] public section

/-! # Places inside an expert

Each assignment takes the next free place of its expert. The assignments are ordered: every token's first choice, in the
order of the tokens, then every token's second choice. `before f t e` counts the entries of a list of experts that
precede position `t` and name expert `e`. -/

namespace Cert.Places

/-- How many of the entries of `f` before position `t` are `e`. -/
def before {n : ℕ} (f : Fin n → Fin 8) (t : ℕ) (e : Fin 8) : ℕ := ∑ s : Fin n, if s.val < t ∧ f s = e then 1 else 0

/-- All the entries of the two lists, one after the other. -/
def both {n : ℕ} (i j : Fin n → Fin 8) : Fin (n + n) → Fin 8 := Fin.append i j

/-- Up to a position of the first list only the first list counts. -/
theorem before_both_left {n : ℕ} (i j : Fin n → Fin 8) (t : Fin n) (e : Fin 8) :
    before (both i j) t.val e = before i t.val e := by
  unfold before both
  rw [Fin.sum_univ_add]
  simp only [Fin.append_left, Fin.append_right, Fin.val_castAdd, Fin.val_natAdd]
  rw [Finset.sum_eq_zero (s := Finset.univ) (f := fun s : Fin n => if n + s.val < t.val ∧ j s = e then 1 else 0), add_zero]
  intro s _
  rw [if_neg]
  have := t.isLt
  omega

/-- From the first position of the second list on, all of the first list counts. -/
theorem before_both_right {n : ℕ} (i j : Fin n → Fin 8) (t : Fin n) (e : Fin 8) :
    before (both i j) (n + t.val) e = before i n e + before j t.val e := by
  unfold before both
  rw [Fin.sum_univ_add]
  simp only [Fin.append_left, Fin.append_right, Fin.val_castAdd, Fin.val_natAdd]
  congr 1
  · refine Finset.sum_congr rfl fun s _ => ?_
    have := s.isLt
    simp only [this, true_and, show s.val < n + t.val by omega]
  · refine Finset.sum_congr rfl fun s _ => ?_
    simp only [Nat.add_lt_add_iff_left]

/-- Two assignments of one expert take different places, the later one the greater. -/
theorem before_lt {n : ℕ} (f : Fin n → Fin 8) {r r' : Fin n} (h : r < r') (he : f r = f r') :
    before f r.val (f r) < before f r'.val (f r') := by
  unfold before
  rw [← he]
  refine Finset.sum_lt_sum (fun s _ => ?_) ⟨r, Finset.mem_univ r, ?_⟩
  · have := Fin.lt_def.1 h
    split_ifs <;> first | omega | skip
    all_goals simp_all
    all_goals omega
  · rw [if_neg (by simp), if_pos ⟨h, rfl⟩]
    exact Nat.zero_lt_one

/-- The place of an assignment determines it among those of its expert. -/
theorem before_injective {n : ℕ} (f : Fin n → Fin 8) {r r' : Fin n} (he : f r = f r')
    (h : before f r.val (f r) = before f r'.val (f r')) : r = r' := by
  rcases lt_trichotomy r r' with hlt | heq | hgt
  · exact absurd h (before_lt f hlt he).ne
  · exact heq
  · exact absurd h.symm (before_lt f hgt he.symm).ne

/-- No count exceeds the number of entries. -/
theorem before_le {n : ℕ} (f : Fin n → Fin 8) (t : ℕ) (e : Fin 8) : before f t e ≤ n := by
  unfold before
  refine (Finset.sum_le_card_nsmul _ _ 1 fun s _ => ?_).trans (by simp)
  split_ifs <;> omega

/-- Entries up to and including a position: those before it and, if it names the expert, itself. -/
theorem upto_eq {n : ℕ} (f : Fin n → Fin 8) (t : Fin n) (e : Fin 8) :
    (∑ s : Fin n, if s ≤ t then (if f s = e then 1 else 0) else 0) = before f t.val e + if f t = e then 1 else 0 := by
  unfold before
  have : (if f t = e then 1 else 0) = ∑ s : Fin n, if s = t then (if f s = e then 1 else 0) else 0 := by simp
  rw [this, ← Finset.sum_add_distrib]
  refine Finset.sum_congr rfl fun s _ => ?_
  by_cases h1 : s = t
  · subst h1; simp
  · have h1' : s.val ≠ t.val := fun q => h1 (Fin.ext q)
    simp only [Fin.le_def, if_neg h1, add_zero]
    by_cases h2 : s.val < t.val
    · simp [h2, h2.le]
    · have h3 : ¬ s.val ≤ t.val := by omega
      simp [h2, h3]

/-! ## Running sums by doubling -/

/-- The sum of the `w` entries of a list that end at position `t`. -/
def window {n : ℕ} {α : Type} [AddCommMonoid α] (f : Fin n → α) (w : ℕ) (t : Fin n) : α :=
  ∑ s : Fin n, if s.val ≤ t.val ∧ t.val < s.val + w then f s else 0

/-- A window of one entry is that entry. -/
theorem window_one {n : ℕ} {α : Type} [AddCommMonoid α] (f : Fin n → α) (t : Fin n) : window f 1 t = f t := by
  unfold window
  rw [Finset.sum_eq_single t]
  · simp
  · intro s _ hs
    have : s.val ≠ t.val := fun q => hs (Fin.ext q)
    rw [if_neg (by omega)]
  · simp

/-- Two windows of one width, one after the other, make up a window of twice the width. -/
theorem window_double {n : ℕ} {α : Type} [AddCommMonoid α] (f : Fin n → α) (w : ℕ) (t : Fin n) :
    window f (w + w) t = window f w t + if h : t.val < w then 0 else window f w ⟨t.val - w, by have := t.isLt; omega⟩ := by
  unfold window
  split
  · next h =>
    rw [add_zero]
    refine Finset.sum_congr rfl fun s _ => ?_
    have e : (s.val ≤ t.val ∧ t.val < s.val + (w + w)) ↔ (s.val ≤ t.val ∧ t.val < s.val + w) := by omega
    simp only [e]
  · next h =>
    rw [← Finset.sum_add_distrib]
    refine Finset.sum_congr rfl fun s _ => ?_
    by_cases h1 : s.val ≤ t.val ∧ t.val < s.val + w
    · rw [if_pos h1, if_pos (by omega), if_neg (by show ¬ (s.val ≤ t.val - w ∧ _); omega), add_zero]
    · rw [if_neg h1, zero_add]
      have e : (s.val ≤ t.val ∧ t.val < s.val + (w + w)) ↔ (s.val ≤ t.val - w ∧ t.val - w < s.val + w) := by have := s.isLt; omega
      simp only [e]

/-- A window as wide as the list holds everything up to its end. -/
theorem window_full {n : ℕ} {α : Type} [AddCommMonoid α] (f : Fin n → α) (t : Fin n) :
    window f n t = ∑ s : Fin n, if s ≤ t then f s else 0 := by
  unfold window
  refine Finset.sum_congr rfl fun s _ => ?_
  have := t.isLt
  have e : (s.val ≤ t.val ∧ t.val < s.val + n) ↔ s ≤ t := by rw [Fin.le_def]; omega
  simp only [e]

end Cert.Places
-- ==== Proof.RunningSum.lean ====
module

public import proofs.«01_k».proof.Proof.Gen.KernelIdeal.Skeleton
public import proofs.«01_k».proof.Proof.Places
public import Idealize.ShloMosaic.Lib.Pointwise

@[expose] public section

set_option maxRecDepth 16384

noncomputable section

/-! # The kernel's running sums

The kernel counts, for every token and expert, the tokens before it that chose the expert. It adds the array to itself
shifted down by 1, 2, 4, …, 1024 rows, which gives the sums up to and including each row, and subtracts the array. -/

namespace Cert.RunningSum

open Cert.KernelIdeal Cert.KernelIdeal.Gen Cert.Places
open Idealize.ShloMosaic Idealize.SL.Sem Idealize.ShloMosaic.Pointwise

/-- Every element of `x` is the sum of the `w` elements of `v` that end there in its column. -/
def IsWindow (v : FVec Ideal S2048x8 .f32) (w : ℕ) (x : FVec Ideal S2048x8 .f32) : Prop :=
  ∀ (t : Fin 2048) (e : Fin 8), x (ix2 t e) = window (α := EReal) (fun s : Fin 2048 => v (ix2 s e)) w t

/-- An array is its own window of one row. -/
theorem isWindow_self (v : FVec Ideal S2048x8 .f32) : IsWindow v 1 v := fun t e =>
  (window_one (α := EReal) (fun s : Fin 2048 => v (ix2 s e)) t).symm

/-- Adding the array shifted down by the width doubles the width. -/
theorem IsWindow.double {v x : FVec Ideal S2048x8 .f32} {d r w : ℕ} (h : IsWindow v d x) (hw : w = d + d)
    (hs : S2048x8.Slices ![0, 0] ⟨2, ![r, 8]⟩) (hc : Shape.Concatenates [⟨2, ![d, 8]⟩, ⟨2, ![r, 8]⟩] S2048x8 0) :
    IsWindow v w (addf x (concatenate S2048x8 0 [⟨⟨2, ![d, 8]⟩, broadcast ⟨2, ![d, 8]⟩ (Scalar.ofBits (F := Ideal) .f32 0x00000000#32)⟩,
      ⟨⟨2, ![r, 8]⟩, extractStridedSlice ⟨2, ![r, 8]⟩ ![0, 0] x hs⟩] hc)) := by
  subst hw
  intro t e
  rw [window_double, addf_apply, h t e]
  refine congrArg (fun y : EReal => window (α := EReal) (fun s : Fin 2048 => v (ix2 s e)) d t + y) ?_
  rw [concatenate_pair_apply]
  by_cases hlt : t.val < d
  · rw [dif_pos hlt]
    exact (dif_pos hlt).trans Ideal.ofBits_zero_f32
  · rw [dif_neg hlt, ← h]
    refine (dif_neg hlt).trans (extractStridedSlice_apply _ _ _ _ _ fun a => ?_)
    fin_cases a
    · show t.val - d = 0 + (t.val - d); omega
    · show e.val = 0 + e.val; omega

/-- The kernel's count before a token of the first choices: the sum up to the token less the token's own. -/
theorem first_counts (v : FVec Ideal S2048x8 .f32) (t : Fin 2048) (e : Fin 8) :
    (k0_pay13 v (ix2 t e) : EReal) = (∑ s : Fin 2048, if s ≤ t then (v (ix2 s e) : EReal) else 0) - v (ix2 t e) := by
  rw [← window_full]
  have h : IsWindow v 2048 _ := (((((((((((isWindow_self v
    ).double (w := 2) rfl slices_S2048x8_o0_0_S2047x8 concatenates_S1x8_S2047x8_S2048x8_d0
    ).double (w := 4) rfl slices_S2048x8_o0_0_S2046x8 concatenates_S2x8_S2046x8_S2048x8_d0
    ).double (w := 8) rfl slices_S2048x8_o0_0_S2044x8 concatenates_S4x8_S2044x8_S2048x8_d0
    ).double (w := 16) rfl slices_S2048x8_o0_0_S2040x8 concatenates_S8x8_S2040x8_S2048x8_d0
    ).double (w := 32) rfl slices_S2048x8_o0_0_S2032x8 concatenates_S16x8_S2032x8_S2048x8_d0
    ).double (w := 64) rfl slices_S2048x8_o0_0_S2016x8 concatenates_S32x8_S2016x8_S2048x8_d0
    ).double (w := 128) rfl slices_S2048x8_o0_0_S1984x8 concatenates_S64x8_S1984x8_S2048x8_d0
    ).double (w := 256) rfl slices_S2048x8_o0_0_S1920x8 concatenates_S128x8_S1920x8_S2048x8_d0
    ).double (w := 512) rfl slices_S2048x8_o0_0_S1792x8 concatenates_S256x8_S1792x8_S2048x8_d0
    ).double (w := 1024) rfl slices_S2048x8_o0_0_S1536x8 concatenates_S512x8_S1536x8_S2048x8_d0
    ).double (w := 2048) rfl slices_S2048x8_o0_0_S1024x8 concatenates_S1024x8_S1024x8_S2048x8_d0
  exact congrArg (fun y : EReal => y - v (ix2 t e)) (h t e)

/-- The same count of the second choices. -/
theorem second_counts (v : FVec Ideal S2048x8 .f32) (t : Fin 2048) (e : Fin 8) :
    (k0_pay15 v (ix2 t e) : EReal) = (∑ s : Fin 2048, if s ≤ t then (v (ix2 s e) : EReal) else 0) - v (ix2 t e) :=
  first_counts v t e

end Cert.RunningSum
-- ==== Proof.Combine.lean ====
module

public import Mathlib.Data.EReal.Operations
public import Mathlib.Data.EReal.Inv
public import Mathlib.Algebra.BigOperators.Group.Finset.Basic
public import Mathlib.Algebra.BigOperators.Group.Finset.Sigma
public import Mathlib.Algebra.Order.BigOperators.Group.Finset

@[expose] public section

/-! # Pooling before the second layer

The sum over the tokens of the weighted answers of the experts is, expert by expert, the second layer of the weighted
sum of the hidden activations. Over the extended reals multiplication distributes over a sum where the factor is a real
that is not negative; the routing weights are such reals, and the hidden activations are not negative. -/

namespace Cert.Combine

/-- A real factor that is not negative goes inside a finite sum. -/
theorem sum_mul_of_real {ι : Type} (s : Finset ι) (f : ι → EReal) {a : EReal} (ha : 0 ≤ a) (ha' : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top ha ha', ih]

/-- Any factor goes inside a finite sum of terms that are not negative. -/
theorem sum_mul_of_nonneg {ι : Type} (s : Finset ι) (f : ι → EReal) (hf : ∀ i ∈ s, 0 ≤ f i) (a : EReal) :
    (∑ i ∈ s, f i) * a = ∑ i ∈ s, f i * a := by
  classical
  induction s using Finset.induction_on with
  | empty => simp
  | insert i s hi ih =>
    rw [Finset.sum_insert hi, Finset.sum_insert hi,
      EReal.right_distrib_of_nonneg (hf i (Finset.mem_insert_self i s))
        (Finset.sum_nonneg fun k hk => hf k (Finset.mem_insert_of_mem hk)),
      ih fun k hk => hf k (Finset.mem_insert_of_mem hk)]

variable {T E K H : Type} [Fintype T] [Fintype E] [DecidableEq E] [Fintype K] [Fintype H]

/-- The weight with which a token enters an expert: the sum of its choices' weights that name the expert. -/
noncomputable def weight (ch : K → T → E) (g : K → T → EReal) (t : T) (e : E) : EReal := ∑ k, if e = ch k t then g k t else 0

/-- Every weight is a real that is not negative. -/
theorem weight_real (ch : K → T → E) (g : K → T → EReal) (hg : ∀ k t, 0 ≤ g k t ∧ g k t ≠ ⊤) (t : T) (e : E) :
    0 ≤ weight ch g t e ∧ weight ch g t e ≠ ⊤ := by
  classical
  unfold weight
  induction (Finset.univ : Finset K) using Finset.induction_on with
  | empty => simp
  | insert k s hk ih =>
    rw [Finset.sum_insert hk]
    split
    · exact ⟨add_nonneg (hg k t).1 ih.1, EReal.add_ne_top (hg k t).2 ih.2⟩
    · rw [zero_add]; exact ih

/-- One expert's contribution: the second layer of the weighted sum of hidden activations, and the weighted bias, are the
    weighted sum of the expert's answers. -/
theorem expert_eq (h : T → H → EReal) (hh : ∀ t f, 0 ≤ h t f) (a : T → EReal) (ha : ∀ t, 0 ≤ a t ∧ a t ≠ ⊤) (w : H → EReal)
    (b : EReal) :
    (∑ f, (∑ t, h t f * a t) * w f) + (∑ t, a t) * b = ∑ t, ((∑ f, h t f * w f) + b) * a t := by
  have h1 : ∀ f, (∑ t, h t f * a t) * w f = ∑ t, h t f * w f * a t := fun f => by
    rw [sum_mul_of_nonneg _ _ fun t _ => mul_nonneg (hh t f) (ha t).1]
    exact Finset.sum_congr rfl fun t _ => mul_right_comm _ _ _
  have h2 : (∑ t, a t) * b = ∑ t, b * a t := by
    rw [sum_mul_of_nonneg _ _ fun t _ => (ha t).1]
    exact Finset.sum_congr rfl fun t _ => mul_comm _ _
  simp only [h1]
  rw [h2, Finset.sum_comm, ← Finset.sum_add_distrib]
  refine Finset.sum_congr rfl fun t _ => ?_
  rw [EReal.right_distrib_of_nonneg_of_ne_top (ha t).1 (ha t).2, sum_mul_of_real _ _ (ha t).1 (ha t).2]

/-- All the experts together: summed over the experts, the weighted sums of their answers are the sum over the tokens and
    their choices. -/
theorem pooled_eq (ch : K → T → E) (g : K → T → EReal) (hg : ∀ k t, 0 ≤ g k t ∧ g k t ≠ ⊤) (h : E → T → H → EReal)
    (hh : ∀ e t f, 0 ≤ h e t f) (w : E → H → EReal) (b : E → EReal) :
    ∑ e, ((∑ f, (∑ t, h e t f * weight ch g t e) * w e f) + (∑ t, weight ch g t e) * b e)
      = ∑ t, ∑ k, ((∑ f, h (ch k t) t f * w (ch k t) f) + b (ch k t)) * g k t := by
  rw [Finset.sum_congr rfl fun e _ => expert_eq (h e) (hh e) (fun t => weight ch g t e) (fun t => weight_real ch g hg t e) (w e) (b e),
    Finset.sum_comm]
  refine Finset.sum_congr rfl fun t _ => ?_
  have h1 : ∀ e, ((∑ f, h e t f * w e f) + b e) * weight ch g t e
      = ∑ k, if e = ch k t then ((∑ f, h e t f * w e f) + b e) * g k t else 0 := fun e => by
    unfold weight
    rw [mul_comm, sum_mul_of_nonneg _ _ fun k _ => by split; exacts [(hg k t).1, le_rfl]]
    refine Finset.sum_congr rfl fun k _ => ?_
    split
    · exact mul_comm _ _
    · exact zero_mul _
  simp only [h1]
  rw [Finset.sum_comm]
  refine Finset.sum_congr rfl fun k _ => ?_
  simp

end Cert.Combine
-- ==== Proof.Assignment.lean ====
module

public import proofs.«01_k».proof.Proof.Numbers
public import proofs.«01_k».proof.Proof.SoftmaxRow
public import proofs.«01_k».proof.Proof.TopTwo
public import proofs.«01_k».proof.Proof.Places
public import proofs.«01_k».proof.Proof.Combine

@[expose] public section

noncomputable section

/-! # The assignment of tokens to experts

`i` and `j` name every token's first and second expert. An assignment `(k, t)` is token `t`'s choice number `k`. Its place
is its number among the assignments of its expert, first choices before second ones; its gate is the probability of its
expert over the sum of the two, zero when the place is outside the capacity. -/

namespace Cert.Assignment

open Cert.Numbers Cert.SoftmaxRow Cert.TopTwo Cert.Places
open Idealize.ShloMosaic

variable (i j : Fin 2048 → Fin 8)

/-- The expert of a choice. -/
def choice (k : Fin 2) (t : Fin 2048) : Fin 8 := if k = 0 then i t else j t

/-- The position of a choice in the order of priority. -/
def position (k : Fin 2) (t : Fin 2048) : Fin (2048 + 2048) := ⟨k.val * 2048 + t.val, by have := k.isLt; have := t.isLt; omega⟩

/-- The place of a choice inside its expert. -/
def place (k : Fin 2) (t : Fin 2048) : ℕ := before (both i j) (position k t).val (choice i j k t)

/-- The gate of a choice. -/
def gate (p : Fin 2048 → Fin 8 → EReal) (k : Fin 2) (t : Fin 2048) : EReal :=
  Ideal.div (p t (choice i j k t)) (p t (i t) + p t (j t)) * if place i j k t < 640 then 1 else 0

/-- The expert at a position in the order of priority. -/
theorem both_position (k : Fin 2) (t : Fin 2048) : both i j (position k t) = choice i j k t := by
  unfold both choice
  obtain ⟨k, hk⟩ := k
  rcases (by omega : k = 0 ∨ k = 1) with rfl | rfl
  · rw [if_pos (show (⟨0, hk⟩ : Fin 2) = 0 from rfl), show position ⟨0, hk⟩ t = Fin.castAdd 2048 t from Fin.ext (by simp [position]), Fin.append_left]
  · rw [if_neg (by simp), show position ⟨1, hk⟩ t = Fin.natAdd 2048 t from Fin.ext (by simp [position, add_comm]), Fin.append_right]

/-- A position names one choice of one token. -/
theorem position_injective {k k' : Fin 2} {t t' : Fin 2048} (h : position k t = position k' t') : k = k' ∧ t = t' := by
  have h' : k.val * 2048 + t.val = k'.val * 2048 + t'.val := congrArg Fin.val h
  have := t.isLt; have := t'.isLt; have := k.isLt; have := k'.isLt
  exact ⟨Fin.ext (by omega), Fin.ext (by omega)⟩

/-- Two choices of one expert and one place are the same. -/
theorem place_injective {k k' : Fin 2} {t t' : Fin 2048} (he : choice i j k t = choice i j k' t') (h : place i j k t = place i j k' t') :
    k = k' ∧ t = t' := by
  unfold place at h
  rw [← both_position, ← both_position] at h
  rw [← both_position, ← both_position] at he
  exact position_injective (before_injective (both i j) he h)

/-- A first choice's place counts the earlier tokens that choose the expert first. -/
theorem place_first (t : Fin 2048) : place i j 0 t = before i t.val (i t) := by
  have : (position 0 t).val = t.val := by simp [position]
  rw [place, this, before_both_left]
  rfl

/-- A second choice's place counts the earlier second choices of the expert and all its first choices. -/
theorem place_second (t : Fin 2048) : place i j 1 t = before j t.val (j t) + before i 2048 (j t) := by
  have : (position 1 t).val = 2048 + t.val := by simp [position]
  rw [place, this, before_both_right, add_comm]
  rfl

/-- A row's state: its two largest entries are at `i` and `j`, and either the row is real, none negative and one positive,
    or it is `⊥` throughout. -/
structure IsRouted (p : Fin 2048 → Fin 8 → EReal) : Prop where
  top : ∀ t, IsTopTwo (p t) (i t) (j t)
  row : (∀ t, (∀ e, 0 ≤ p t e ∧ p t e ≠ ⊤) ∧ ∃ e, 0 < p t e) ∨ ∀ t e, p t e = ⊥

variable {i j}

/-- Where every probability is `⊥` all gates are zero. -/
theorem gate_bad {p : Fin 2048 → Fin 8 → EReal} (h : ∀ t e, p t e = ⊥) (k : Fin 2) (t : Fin 2048) : gate i j p k t = 0 := by
  rw [gate, h, h, EReal.bot_add, div_bot, zero_mul]

/-- Every gate is a real that is not negative. -/
theorem gate_real {p : Fin 2048 → Fin 8 → EReal} (h : IsRouted i j p) (k : Fin 2) (t : Fin 2048) :
    0 ≤ gate i j p k t ∧ gate i j p k t ≠ ⊤ := by
  rcases h.row with hg | hb
  · obtain ⟨hr, e, he⟩ := hg t
    have hpos : 0 < p t (i t) + p t (j t) := add_pos_of_pos_of_nonneg (he.trans_le ((h.top t).first e).1) (hr (j t)).1
    have := div_real (hr (choice i j k t)).1 (hr (choice i j k t)).2 hpos (EReal.add_ne_top (hr (i t)).2 (hr (j t)).2)
    unfold gate
    split
    · rw [mul_one]; exact ⟨this.1, this.2.1⟩
    · rw [mul_zero]; exact ⟨le_rfl, EReal.zero_ne_top⟩
  · rw [gate_bad hb]
    exact ⟨le_rfl, EReal.zero_ne_top⟩

/-- A sum of ones up to and including a position, less the position's own, is the count before it. -/
theorem counted {n : ℕ} (f : Fin n → Fin 8) (t : Fin n) (e : Fin 8) :
    (∑ s : Fin n, if s ≤ t then (if e = f s then (1 : EReal) else 0) else 0) - (if e = f t then 1 else 0)
      = ((before f t.val e : ℝ) : EReal) := by
  have h : (∑ s : Fin n, if s ≤ t then (if e = f s then (1 : EReal) else 0) else 0)
      = (((before f t.val e + if f t = e then 1 else 0 : ℕ) : ℝ) : EReal) := by
    rw [← upto_eq]
    simp only [← ite_and, eq_comm (a := e)]
    exact sum_ones _ _
  rw [h]
  by_cases he : e = f t
  · rw [if_pos he, if_pos he.symm, Nat.cast_add, Nat.cast_one, ← EReal.coe_one, ← EReal.coe_sub, add_sub_cancel_right]
  · rw [if_neg he, if_neg fun h => he h.symm, add_zero, sub_zero]

/-- A sum of ones over all positions is the count before the end. -/
theorem counted_all {n : ℕ} (f : Fin n → Fin 8) (e : Fin 8) :
    (∑ s : Fin n, if e = f s then (1 : EReal) else 0) = ((before f n e : ℝ) : EReal) := by
  rw [sum_ones]
  unfold before
  simp only [Fin.is_lt, true_and, eq_comm (a := e)]

end Cert.Assignment
-- ==== Proof.KernelMatrix.lean ====
module

public import proofs.«01_k».proof.Proof.KernelState
public import proofs.«01_k».proof.Proof.KernelRouting
public import proofs.«01_k».proof.Proof.RunningSum
public import proofs.«01_k».proof.Proof.Assignment

@[expose] public section

set_option maxRecDepth 16384

noncomputable section

/-! # The kernel's routing matrix

The matrix the first grid point stores holds, for every token and expert, the sum of the gates of the token's choices
that name the expert. -/

namespace Cert.KernelMatrix

open Cert.KernelIdeal Cert.KernelIdeal.Gen Cert.KernelState Cert.KernelRouting Cert.RunningSum
open Cert.Numbers Cert.SoftmaxRow Cert.TopTwo Cert.Places Cert.Assignment Cert.Combine
open Idealize.ShloMosaic Idealize.SL.Sem Idealize.ShloMosaic.Pointwise

variable (x : Vec Ideal S2048x1024 .f32) (wr : Vec Ideal S1024x8 .f32) (br : Vec Ideal S1x8 .f32)

/-- The matrix the first point computes holds, for every token and expert, the gate the token gives that expert. -/
theorem routing_eq {i j : Fin 2048 → Fin 8} (h : IsRouted i j fun t => softmax (logit x wr br t)) (t : Fin 2048) (e : Fin 8) :
    (routing x wr br (ix2 t e) : EReal) = weight (choice i j) (gate i j fun t => softmax (logit x wr br t)) t e := by
  have h1 : ∀ t, (k0_pay4 x wr br (ix2 t 0) : EReal) = softmax (logit x wr br t) (i t) := fun t =>
    largest_eq x wr br t (h.top t).first
  unfold routing
  rw [assemble_eq, (shares_eq _ _ t).1, (shares_eq _ _ t).2, h1, weight, Fin.sum_univ_two]
  rcases h.row with hg | hb
  · have hp : ∀ t e, 0 ≤ softmax (logit x wr br t) e := fun t e => ((hg t).1 e).1
    have hi : ∀ t e, (k0_pay8 x wr br (ix2 t e) : EReal) = if e = i t then 1 else 0 := fun t e =>
      first_eq x wr br t (h.top t).first e
    have hj : ∀ t e, (k0_pay9 x wr br (ix2 t e) : EReal) = if e = j t then 1 else 0 := fun t e =>
      second_mask_eq x wr br t (h.top t) (hp t) e
    have c1 : ∀ t e, (k0_pay13 (k0_pay8 x wr br) (ix2 t e) : EReal) = ((before i t.val e : ℝ) : EReal) := fun t e => by
      rw [first_counts]
      simp only [hi]
      exact counted i t e
    have c2 : ∀ t e, (k0_pay15 (k0_pay9 x wr br) (ix2 t e) : EReal) = ((before j t.val e : ℝ) : EReal) := fun t e => by
      rw [second_counts]
      simp only [hj]
      exact counted j t e
    have c0 : ∀ e, (k0_pay14 (k0_pay8 x wr br) (ix2 0 e) : EReal) = ((before i 2048 e : ℝ) : EReal) := fun e => by
      rw [totals_eq]
      simp only [hi]
      exact counted_all i e
    have n1 : (∑ k : Fin 8, (k0_pay16 (k0_pay8 x wr br) (k0_pay13 (k0_pay8 x wr br)) (ix2 t k) : EReal))
        = ((place i j 0 t : ℝ) : EReal) := by
      rw [place_first, Finset.sum_congr rfl fun k _ => own_eq _ _ t k]
      simp only [c1, hi, mul_ite, mul_one, mul_zero, Finset.sum_ite_eq', Finset.mem_univ, if_true]
    have n2 : (∑ k : Fin 8, ((k0_pay15 (k0_pay9 x wr br) (ix2 t k) : EReal) + k0_pay14 (k0_pay8 x wr br) (ix2 0 k))
          * k0_pay9 x wr br (ix2 t k)) = ((place i j 1 t : ℝ) : EReal) := by
      rw [place_second, Nat.cast_add, EReal.coe_add]
      simp only [c2, c0, hj, mul_ite, mul_one, mul_zero, Finset.sum_ite_eq', Finset.mem_univ, if_true]
    rw [n1, n2, second_eq x wr br t (h.top t) (hp t), hi, hj]
    simp only [count_lt, gate, choice, if_true, Fin.isValue, one_ne_zero, if_false, mul_ite, mul_one, mul_zero]
  · rw [gate_bad hb, gate_bad hb, hb, EReal.bot_add, div_bot, div_bot]
    simp

end Cert.KernelMatrix
-- ==== Proof.KernelLayers.lean ====
module

public import proofs.«01_k».proof.Proof.Gen.KernelIdeal.Skeleton
public import proofs.«01_k».proof.Proof.Numbers
public import Idealize.ShloMosaic.Lib.Pointwise

@[expose] public section

set_option maxRecDepth 16384

noncomputable section

/-! # What one grid point computes from its blocks, element by element -/

namespace Cert.KernelLayers

open Cert.KernelIdeal Cert.KernelIdeal.Gen Cert.Numbers
open Idealize.ShloMosaic Idealize.SL.Sem Idealize.ShloMosaic.Pointwise

/-- The column of the routing matrix that belongs to the point's expert. -/
theorem column (i : grid0.Coords) (e : Fin 8) (he : (i 0).val = e.val) (A : Vec Ideal S2048x8 .f32) (t : Fin 2048) :
    (k0_pay19 i A (ix2 t 0) : EReal) = A (ix2 t e) := by
  pointwise [k0_pay19]
  rw [he]
  rw [Finset.sum_eq_single e]
  · rw [cmpi_eq, decide_eq_true rfl]
    rfl
  · intro k _ hk
    rw [cmpi_eq, decide_eq_false (fun h => hk ((expert_inj k e).1 h))]
    rfl
  · simp

/-- The sum of that column. -/
theorem column_sum (i : grid0.Coords) (e : Fin 8) (he : (i 0).val = e.val) (A : Vec Ideal S2048x8 .f32) :
    (k0_pay20 i A : EReal) = ∑ t : Fin 2048, (A (ix2 t e) : EReal) := by
  pointwise [k0_pay20]
  simp only [column i e he, Fin.sum_univ_one]

/-- The second layer's product with the weighted sum of the hidden activations. -/
theorem hidden (i : grid0.Coords) (e : Fin 8) (he : (i 0).val = e.val) (A : Vec Ideal S2048x8 .f32) (x : Vec Ideal S2048x1024 .f32)
    (w1 : Vec Ideal S1x1024x2048 .f32) (b1 : Vec Ideal S1x1x2048 .f32) (w2 : Vec Ideal S1x2048x1024 .f32) (d : Fin 1024) :
    (k0_pay21 i A x w1 b1 w2 (ix2 0 d) : EReal) = ∑ f : Fin 2048, (∑ t : Fin 2048,
      max ((∑ d' : Fin 1024, (x (ix2 t d') : EReal) * w1 (ix3 0 d' f)) + b1 (ix3 0 0 f)) 0 * A (ix2 t e)) * w2 (ix3 0 f d) := by
  pointwise [k0_pay21]
  simp only [column i e he]

/-- The accumulator after a point. -/
theorem accumulated (s : Ideal .f32) (a v : Vec Ideal S1x1024 .f32) (b2 : Vec Ideal S1x1x1024 .f32) (d : Fin 1024) :
    (k0_pay1 s a v b2 (ix2 0 d) : EReal) = a (ix2 0 d) + (v (ix2 0 d) + s * b2 (ix3 0 0 d)) := by
  pointwise [k0_pay1]

/-- The accumulator before the first point. -/
theorem cleared (d : Fin 1024) : (k0_pay18 (F := Ideal) (ix2 0 d) : EReal) = 0 := by
  pointwise [k0_pay18]

/-- The classifier on the mean. -/
theorem classified (a : Vec Ideal S1x1024 .f32) (w : Vec Ideal S1024x10 .f32) (b : Vec Ideal S1x10 .f32) (n : Fin 10) :
    (k0_pay2 a w b (ix2 0 n) : EReal)
      = (∑ d : Fin 1024, Ideal.div (a (ix2 0 d)) (Ideal.ofBits .f32 1157627904#32) * w (ix2 d n)) + b (ix2 0 n) := by
  pointwise [k0_pay2]

end Cert.KernelLayers
-- ==== Proof.Layer.lean ====
module

public import proofs.«01_k».proof.Proof.Assignment
public import proofs.«01_k».proof.Proof.Combine
public import proofs.«01_k».proof.Proof.SoftmaxRow

@[expose] public section

noncomputable section

/-! # The layer in one formula

The kernel and the reference are both compared with the same formula: over the tokens and their two choices, the chosen
expert's network on the token times the gate of the choice. -/

namespace Cert.Layer

open Cert.Assignment Cert.SoftmaxRow Cert.Combine

/-- The router's logits. -/
def score (x : Fin 2048 → Fin 1024 → EReal) (wr : Fin 1024 → Fin 8 → EReal) (br : Fin 8 → EReal) (t : Fin 2048) (e : Fin 8) : EReal :=
  (∑ d, x t d * wr d e) + br e

/-- An expert's first layer on a token. -/
def activation (x : Fin 2048 → Fin 1024 → EReal) (w1 : Fin 8 → Fin 1024 → Fin 2048 → EReal) (b1 : Fin 8 → Fin 2048 → EReal)
    (e : Fin 8) (t : Fin 2048) (f : Fin 2048) : EReal :=
  max ((∑ d, x t d * w1 e d f) + b1 e f) 0

/-- An expert's network on a token, one output coordinate. -/
def expert (x : Fin 2048 → Fin 1024 → EReal) (w1 : Fin 8 → Fin 1024 → Fin 2048 → EReal) (b1 : Fin 8 → Fin 2048 → EReal)
    (w2 : Fin 8 → Fin 2048 → EReal) (b2 : Fin 8 → EReal) (e : Fin 8) (t : Fin 2048) : EReal :=
  (∑ f, activation x w1 b1 e t f * w2 e f) + b2 e

/-- The layer's output summed over the tokens, one coordinate. -/
def total (i j : Fin 2048 → Fin 8) (p : Fin 2048 → Fin 8 → EReal) (x : Fin 2048 → Fin 1024 → EReal)
    (w1 : Fin 8 → Fin 1024 → Fin 2048 → EReal) (b1 : Fin 8 → Fin 2048 → EReal) (w2 : Fin 8 → Fin 2048 → EReal) (b2 : Fin 8 → EReal) : EReal :=
  ∑ t, ∑ k, expert x w1 b1 w2 b2 (choice i j k t) t * gate i j p k t

/-- Summing expert by expert, each token's activation times the weight its routing gives the expert, is the same total. -/
theorem total_by_expert {i j : Fin 2048 → Fin 8} {p : Fin 2048 → Fin 8 → EReal} (h : IsRouted i j p) (x : Fin 2048 → Fin 1024 → EReal)
    (w1 : Fin 8 → Fin 1024 → Fin 2048 → EReal) (b1 : Fin 8 → Fin 2048 → EReal) (w2 : Fin 8 → Fin 2048 → EReal) (b2 : Fin 8 → EReal) :
    ∑ e, ((∑ f, (∑ t, activation x w1 b1 e t f * weight (choice i j) (gate i j p) t e) * w2 e f)
        + (∑ t, weight (choice i j) (gate i j p) t e) * b2 e)
      = total i j p x w1 b1 w2 b2 :=
  pooled_eq (choice i j) (gate i j p) (gate_real h) (fun e t f => activation x w1 b1 e t f)
    (fun _ _ _ => le_max_right _ _) w2 b2

/-- Finite tokens and router matrix give logits that are either real or the bias's infinity, alike in every row. -/
theorem routed {x : Fin 2048 → Fin 1024 → EReal} {wr : Fin 1024 → Fin 8 → EReal} (br : Fin 8 → EReal)
    (hx : ∀ t d, x t d ≠ ⊤ ∧ x t d ≠ ⊥) (hw : ∀ d e, wr d e ≠ ⊤ ∧ wr d e ≠ ⊥) {i j : Fin 2048 → Fin 8}
    (top : ∀ t, TopTwo.IsTopTwo (softmax (score x wr br t)) (i t) (j t)) :
    IsRouted i j fun t => softmax (score x wr br t) := by
  have real : ∀ t e, ∃ r : ℝ, (∑ d, x t d * wr d e) = (r : EReal) := fun t e => by
    have hd : ∀ d, ((x t d).toReal * (wr d e).toReal : ℝ) = x t d * wr d e := fun d => by
      rw [EReal.coe_mul, EReal.coe_toReal (hx t d).1 (hx t d).2, EReal.coe_toReal (hw d e).1 (hw d e).2]
    exact ⟨∑ d, (x t d).toReal * (wr d e).toReal,
      (Finset.sum_congr rfl fun d _ => (hd d).symm).trans
        (map_sum (⟨⟨Real.toEReal, EReal.coe_zero⟩, EReal.coe_add⟩ : ℝ →+ EReal) _ _).symm⟩
  refine ⟨top, ?_⟩
  by_cases bad : (∃ e, br e = ⊤) ∨ ∀ e, br e = ⊥
  · refine Or.inr fun t => softmax_bad _ ?_
    rcases bad with ⟨e, he⟩ | hb
    · refine Or.inl ⟨e, ?_⟩
      obtain ⟨r, hr⟩ := real t e
      rw [score, hr, he]
      exact EReal.coe_add_top r
    · exact Or.inr fun e => by rw [score, hb, EReal.add_bot]
  · push Not at bad
    obtain ⟨ht, e, he⟩ := bad
    refine Or.inl fun t => softmax_good _ (fun k => ?_) ⟨e, ?_⟩
    · obtain ⟨r, hr⟩ := real t k
      rw [score, hr]
      exact EReal.add_ne_top (EReal.coe_ne_top r) (ht k)
    · obtain ⟨r, hr⟩ := real t e
      rw [score, hr]
      intro h
      rcases EReal.add_eq_bot_iff.1 h with h | h
      · exact EReal.coe_ne_bot r h
      · exact he h

end Cert.Layer
-- ==== Proof.KernelValue.lean ====
module

public import proofs.«01_k».proof.Proof.KernelState
public import proofs.«01_k».proof.Proof.KernelBlocks
public import proofs.«01_k».proof.Proof.KernelMatrix
public import proofs.«01_k».proof.Proof.KernelLayers
public import proofs.«01_k».proof.Proof.Layer

@[expose] public section

set_option maxRecDepth 16384

noncomputable section

/-! # What the kernel computes

The first grid point leaves the routing weights, which no later point changes. Point `e` adds expert `e`'s share to the
accumulator, and the last point classifies the sum. -/

namespace Cert.KernelValue

open Cert.KernelIdeal Cert.KernelIdeal.Gen Cert.KernelIdeal.Value Cert.KernelState Cert.KernelRouting Cert.KernelMatrix Cert.KernelLayers
open Cert.Assignment Cert.Combine Cert.Layer Cert.SoftmaxRow
open Idealize.ShloMosaic Idealize.ShloMosaic.TcCoe Idealize.SL.Sem Idealize.ShloMosaic.Pointwise

variable (m : (ℓ : Loc nD τ sig) → Buf (Elt Ideal) ℓ) (c : Dev nD)

/-- The tokens. -/
def tokens (t : Fin 2048) (d : Fin 1024) : EReal := m ((c : Thread nD τ).loc main_arg0) (ix3 0 t d)
/-- The router's matrix. -/
def router (d : Fin 1024) (e : Fin 8) : EReal := m ((c : Thread nD τ).loc main_arg1) (ix2 d e)
/-- The router's bias. -/
def routerBias (e : Fin 8) : EReal := m ((c : Thread nD τ).loc main_arg2) (ix1 e)
/-- The experts' first matrices. -/
def first (e : Fin 8) (d : Fin 1024) (f : Fin 2048) : EReal := m ((c : Thread nD τ).loc main_arg3) (ix3 e d f)
/-- The experts' first biases. -/
def firstBias (e : Fin 8) (f : Fin 2048) : EReal := m ((c : Thread nD τ).loc main_arg4) (ix2 e f)
/-- The experts' second matrices, one output coordinate. -/
def second (d : Fin 1024) (e : Fin 8) (f : Fin 2048) : EReal := m ((c : Thread nD τ).loc main_arg5) (ix3 e f d)
/-- The experts' second biases, one output coordinate. -/
def secondBias (d : Fin 1024) (e : Fin 8) : EReal := m ((c : Thread nD τ).loc main_arg6) (ix2 e d)

/-- An expert's share of one coordinate, the routing weights given. -/
def share (A : Fin 2048 → Fin 8 → EReal) (d : Fin 1024) (e : Fin 8) : EReal :=
  (∑ f, (∑ t, activation (tokens m c) (first m c) (firstBias m c) e t f * A t e) * second m c d e f) + (∑ t, A t e) * secondBias m c d e

/-- One point adds its expert's share. -/
theorem added (t : Fin cfg0.N) (A : Vec Ideal S2048x8 .f32) (a : Vec Ideal S1x1024 .f32) (d : Fin 1024) :
    (k0_pay1 (k0_pay20 (grid0.coords t) A) a
        (k0_pay21 (grid0.coords t) A (iblk m c 0 t) (iblk m c 3 t) (iblk m c 4 t) (iblk m c 5 t)) (iblk m c 6 t) (ix2 0 d) : EReal)
      = a (ix2 0 d) + share m c (fun t e => (A (ix2 t e) : EReal)) d (t.cast N_0) := by
  have he : (grid0.coords t 0).val = (t.cast N_0).val := (KernelBlocks.idx t).2.2.2.2.2.2.2.2.2
  rw [accumulated, hidden _ _ he, column_sum _ _ he, KernelBlocks.b2]
  simp only [KernelBlocks.tokens, KernelBlocks.w1, KernelBlocks.b1, KernelBlocks.w2]
  rfl

/-- The state after point `n`. -/
def after (n : ℕ) (h : 0 + n < cfg0.N) := Pipeline.accAt (fun n h => stAt0 m c n h junk0) (stAt0 m c) 0 n h

/-- The routing weights the first point leaves. -/
def weights : Vec Ideal S2048x8 .f32 :=
  routing (iblk m c 0 ⟨0, lt_of_lt_of_eq (by decide) N_0.symm⟩) (iblk m c 1 ⟨0, lt_of_lt_of_eq (by decide) N_0.symm⟩)
    (iblk m c 2 ⟨0, lt_of_lt_of_eq (by decide) N_0.symm⟩)

/-- The routing weights stay, and the accumulator holds the shares of the experts so far. -/
theorem after_eq (n : ℕ) (h : 0 + n < cfg0.N) :
    (after m c n h).2.1 = weights m c ∧ ∀ d : Fin 1024, ((after m c n h).2.2 (ix2 0 d) : EReal)
      = ∑ e ∈ Finset.range (n + 1), if he : e < 8 then share m c (fun t e => (weights m c (ix2 t e) : EReal)) d ⟨e, he⟩ else 0 := by
  induction n with
  | zero =>
    refine ⟨first_routing m c ⟨0, h⟩ rfl junk0, fun d => ?_⟩
    refine (congrArg (fun a : Vec Ideal S1x1024 .f32 => (a (ix2 0 d) : EReal)) (first_acc m c ⟨0, h⟩ rfl junk0)).trans ?_
    refine (added m c ⟨0, h⟩ _ _ d).trans ?_
    rw [cleared, zero_add, Finset.sum_range_one, dif_pos (by decide)]
    rfl
  | succ n ih =>
    have hn : n + 1 < 8 := by
      have := lt_of_lt_of_eq h N_0
      omega
    have h0 : ¬ (⟨0 + (n + 1), h⟩ : Fin cfg0.N).val % 8 = 0 := by
      show ¬ (0 + (n + 1)) % 8 = 0
      omega
    obtain ⟨ihA, ihS⟩ := ih (Nat.lt_of_succ_lt h)
    refine ⟨(step_routing m c ⟨0 + (n + 1), h⟩ h0 (after m c n (Nat.lt_of_succ_lt h))).trans ihA, fun d => ?_⟩
    refine (congrArg (fun a : Vec Ideal S1x1024 .f32 => (a (ix2 0 d) : EReal))
      (step_acc m c ⟨0 + (n + 1), h⟩ h0 (after m c n (Nat.lt_of_succ_lt h)))).trans ?_
    refine (added m c ⟨0 + (n + 1), h⟩ _ _ d).trans ?_
    rw [ihA, ihS, Finset.sum_range_succ _ (n + 1), dif_pos hn]
    refine congrArg (fun q => _ + share m c _ d q) (Fin.ext ?_)
    show 0 + (n + 1) = n + 1
    omega

/-- The routing weights the kernel forms are those of the routed choices. -/
theorem weights_eq {i j : Fin 2048 → Fin 8} (h : IsRouted i j fun t => softmax (score (tokens m c) (router m c) (routerBias m c) t))
    (t : Fin 2048) (e : Fin 8) :
    (weights m c (ix2 t e) : EReal)
      = weight (choice i j) (gate i j fun t => softmax (score (tokens m c) (router m c) (routerBias m c) t)) t e := by
  have hl : ∀ q : Fin cfg0.N, logit (iblk m c 0 q) (iblk m c 1 q) (iblk m c 2 q) = score (tokens m c) (router m c) (routerBias m c) :=
    fun q => funext fun t => funext fun e => by
      unfold logit
      rw [KernelBlocks.br]
      simp only [KernelBlocks.tokens, KernelBlocks.wr]
      rfl
  have hr := routing_eq (i := i) (j := j) (iblk m c 0 ⟨0, lt_of_lt_of_eq (by decide) N_0.symm⟩) (iblk m c 1 ⟨0, lt_of_lt_of_eq (by decide) N_0.symm⟩)
    (iblk m c 2 ⟨0, lt_of_lt_of_eq (by decide) N_0.symm⟩)
  rw [hl] at hr
  exact hr h t e

/-- The accumulator after the last point is the layer's total. -/
theorem sum_eq {i j : Fin 2048 → Fin 8} (h : IsRouted i j fun t => softmax (score (tokens m c) (router m c) (routerBias m c) t))
    (h7 : 0 + 7 < cfg0.N) (d : Fin 1024) :
    ((after m c 7 h7).2.2 (ix2 0 d) : EReal)
      = total i j (fun t => softmax (score (tokens m c) (router m c) (routerBias m c) t)) (tokens m c) (first m c)
            (firstBias m c) (second m c d) (secondBias m c d) := by
  have hw : (fun t e => (weights m c (ix2 t e) : EReal))
      = weight (choice i j) (gate i j fun t => softmax (score (tokens m c) (router m c) (routerBias m c) t)) :=
    funext fun t => funext fun e => weights_eq m c h t e
  refine ((after_eq m c 7 h7).2 d).trans ?_
  rw [hw]
  exact (Finset.sum_fin_eq_sum_range (n := 8) _).symm.trans (total_by_expert h _ _ _ _ _)

/-- The output after the last point classifies its accumulator. -/
theorem output_eq (h7 : 0 + 7 < cfg0.N) (n : Fin 10) :
    ((after m c 7 h7).1 (ix2 0 n) : EReal)
      = (∑ d : Fin 1024, Ideal.div ((after m c 7 h7).2.2 (ix2 0 d)) (Ideal.ofBits .f32 1157627904#32)
          * m ((c : Thread nD τ).loc main_arg7) (ix2 d n)) + m ((c : Thread nD τ).loc main_arg8) (ix1 n) := by
  have ho : (after m c 7 h7).1 = k0_pay2 (after m c 7 h7).2.2 (iblk m c 7 ⟨0 + 7, h7⟩) (iblk m c 8 ⟨0 + 7, h7⟩) :=
    last_out m c ⟨0 + 7, h7⟩ rfl (after m c 6 (Nat.lt_of_succ_lt h7))
  rw [ho, classified, KernelBlocks.bc]
  simp only [KernelBlocks.wc]

/-- The kernel's result: the layer's total, divided by the number of tokens and classified. -/
theorem result_eq {i j : Fin 2048 → Fin 8} (h : IsRouted i j fun t => softmax (score (tokens m c) (router m c) (routerBias m c) t))
    (n : Fin 10) :
    (G9 m c (ix2 0 n) : EReal)
      = (∑ d : Fin 1024, Ideal.div (total i j (fun t => softmax (score (tokens m c) (router m c) (routerBias m c) t)) (tokens m c) (first m c)
            (firstBias m c) (second m c d) (secondBias m c d)) (Ideal.ofBits .f32 1157627904#32)
          * m ((c : Thread nD τ).loc main_arg7) (ix2 d n)) + m ((c : Thread nD τ).loc main_arg8) (ix1 n) := by
  have h7 : 0 + 7 < cfg0.N := lt_of_lt_of_eq (by decide) N_0.symm
  have hg : G9 m c = (after m c 7 h7).1 := G9_last m c
  rw [hg, output_eq]
  simp only [sum_eq m c h]

end Cert.KernelValue
-- ==== Proof.ReferenceStages.lean ====
module

public import proofs.«01_k».proof.Proof.Gen.ReferenceIdeal.Run

@[expose] public section

set_option maxRecDepth 16384

noncomputable section

/-! # The reference cut into stages

The run of the reference leaves one long composed term. The definitions below name its parts, in the order of the
program: the routing probabilities, the two experts of each token, the place of each assignment inside its expert's
buffer, the experts' buffers, the experts' network, and the pooled and classified result. -/

namespace Cert.ReferenceStages

open Cert.ReferenceIdeal Cert.ReferenceIdeal.Gen
open Idealize.ShloMosaic Idealize.ShloMosaic.TcCoe Idealize.SL.Sem

variable {F : FTy → Type} [FloatOps F]

/-- The tokens as a matrix. -/
def tokens (x : FVec F S1x2048x1024 .f32) : FVec F S2048x1024 .f32 :=
  shapeCast _ x shapeCasts_S1x2048x1024_S2048x1024

/-- The router's logits. -/
def logits (x : FVec F S1x2048x1024 .f32) (wr : FVec F S1024x8 .f32) (br : FVec F S8 .f32) : FVec F S2048x8 .f32 :=
  addf (Host.dotGeneral dot_S2048x1024_S1024x8_S2048x8_1_0_0_1_n_n none (tokens x) wr)
    (broadcastInDim S2048x8 ![0, 1] bcast_S1x8_S2048x8_0_1 (broadcastInDim S1x8 ![1] bcast_S8_S1x8_1 br))

/-- The exponentials of the logits, each row shifted by its largest entry. -/
def exps (l : FVec F S2048x8 .f32) : FVec F S2048x8 .f32 :=
  Host.exp (subf l (broadcastInDim S2048x8 ![0, 1] bcast_S2048x1_S2048x8_0_1 (broadcastInDim S2048x1 ![0] bcast_S2048_S2048x1_0
    (maximumf (broadcastInDim S2048 ![] bcast_S_S2048 (constant S_ .f32 0xFF800000#32))
      (Host.reduce FloatOps.maximumf l (constant S_ .f32 0xFF800000#32) reducesTo_S2048x8_S2048_d1 h_S_)))))

/-- The routing probabilities. -/
def probs (l : FVec F S2048x8 .f32) : FVec F S2048x8 .f32 :=
  Host.divf (exps l) (broadcastInDim S2048x8 ![0, 1] bcast_S2048x1_S2048x8_0_1 (broadcastInDim S2048x1 ![0] bcast_S2048_S2048x1_0
    (Host.reduceAdd (exps l) (constant S_ .f32 0x00000000#32) reducesTo_S2048x8_S2048_d1 h_S_)))

/-- The two largest probabilities of each row. -/
def topW (p : FVec F S2048x8 .f32) : FVec F S2048x2 .f32 :=
  (Host.topK S2048x2 1 (FloatOps.cmpfTotal .gt) p sliceFits_S2048x8_S2048x2).1

/-- The experts that the two largest probabilities of each row belong to. -/
def topI (p : FVec F S2048x8 .f32) : IVec S2048x2 32 :=
  (Host.topK S2048x2 1 (FloatOps.cmpfTotal .gt) p sliceFits_S2048x8_S2048x2).2

/-- The experts of the assignments in order of priority: every token's first expert, then every token's second. -/
def slots (i : IVec S2048x2 32) : IVec S4096 32 :=
  shapeCast _ (transpose S2x2048 [1, 0] i transposes_S2048x2_S2x2048_1_0) shapeCasts_S2x2048_S4096

/-- Each assignment's expert as a row of zeros and a one. -/
def oneHot (s : IVec S4096 32) : IVec S4096x8 32 :=
  extui 32 (cmpi .eq (broadcastInDim S4096x8 ![0, 1] bcast_S4096x1_S4096x8_0_1 (broadcastInDim S4096x1 ![0] bcast_S4096_S4096x1_0 s))
    (broadcastInDim S4096x8 ![0, 1] bcast_S1x8_S4096x8_0_1 (iotaInDim S1x8 32 1))) natLt_1_32

/-- How many assignments up to each one go to each expert. -/
def counts (h : IVec S4096x8 32) : IVec S4096x8 32 :=
  Host.reduceWindow IntOp.addi ![4096, 1] ![1, 1] ![4095, 0] ![0, 0] h
    (broadcastInDim S_ ![] bcast_S_S_ (constantI S_ 32 0#32)) reduceWindows_S4096x8_S4096x8_w4096s1p4095_0_w1s1p0_0 h_S_

/-- The place of each assignment among those of its expert. -/
def places (h : IVec S4096x8 32) : IVec S4096 32 :=
  Host.reduce IntOp.addi (muli (subi (counts h) (broadcastInDim S4096x8 ![] bcast_S_S4096x8 (constantI S_ 32 1#32))) h)
    (constantI S_ 32 0#32) reducesTo_S4096x8_S4096_d1 h_S_

/-- Whether each token's assignment falls within its expert's capacity. -/
def valid (p : IVec S4096 32) : IVec S2048x2 1 :=
  transpose S2048x2 [1, 0] (shapeCast _ (cmpi .slt p (broadcastInDim S4096 ![] bcast_S_S4096 (constantI S_ 32 640#32)))
    shapeCasts_S4096_S2x2048) transposes_S2x2048_S2048x2_1_0

/-- The places by token and choice, held inside the buffer. -/
def clipped (p : IVec S4096 32) : IVec S2048x2 32 :=
  minsi (broadcastInDim S2048x2 ![] bcast_S_S2048x2 (id (constantI S_ 32 639#32)))
    (maxsi (broadcastInDim S2048x2 ![] bcast_S_S2048x2 (id (constantI S_ 32 0#32)))
      (transpose S2048x2 [1, 0] (shapeCast _ p shapeCasts_S4096_S2x2048) transposes_S2x2048_S2048x2_1_0))

/-- The row of the buffers that each assignment, taken token by token, writes and reads. -/
def pairs (i p : IVec S2048x2 32) : IVec S4096x2 32 :=
  concatenate S4096x2 1 [⟨S4096x1, (broadcastInDim S4096x1 ![0] bcast_S4096_S4096x1_0
      (select (cmpi .slt (shapeCast S4096 i shapeCasts_S2048x2_S4096) (broadcastInDim S4096 ![] bcast_S_S4096 (constantI S_ 32 0#32)))
        (addi (shapeCast S4096 i shapeCasts_S2048x2_S4096) (broadcastInDim S4096 ![] bcast_S_S4096 (constantI S_ 32 8#32)))
        (shapeCast S4096 i shapeCasts_S2048x2_S4096)))⟩,
    ⟨S4096x1, (broadcastInDim S4096x1 ![0] bcast_S4096_S4096x1_0
      (select (cmpi .slt (shapeCast S4096 p shapeCasts_S2048x2_S4096) (broadcastInDim S4096 ![] bcast_S_S4096 (constantI S_ 32 0#32)))
        (addi (shapeCast S4096 p shapeCasts_S2048x2_S4096) (broadcastInDim S4096 ![] bcast_S_S4096 (constantI S_ 32 640#32)))
        (shapeCast S4096 p shapeCasts_S2048x2_S4096)))⟩] concatenates_S4096x1_S4096x1_S4096x2_d1

/-- The rows added to the buffers: each token once per choice, zero where it is out of capacity. -/
def updates (x : FVec F S1x2048x1024 .f32) (v : IVec S2048x2 1) : FVec F S4096x1024 .f32 :=
  shapeCast _ (mulf (broadcastInDim S2048x2x1024 ![0, 1, 2] bcast_S2048x1x1024_S2048x2x1024_0_1_2
      (broadcastInDim S2048x1x1024 ![0, 2] bcast_S2048x1024_S2048x1x1024_0_2 (tokens x)))
    (broadcastInDim S2048x2x1024 ![0, 1, 2] bcast_S2048x2x1_S2048x2x1024_0_1_2
      (uitofp .f32 (broadcastInDim S2048x2x1 ![0, 1] bcast_S2048x2_S2048x2x1_0_1 v)))) shapeCasts_S2048x2x1024_S4096x1024

/-- The experts' buffers. -/
def buffers (q : IVec S4096x2 32) (u : FVec F S4096x1024 .f32) : FVec F S8x640x1024 .f32 :=
  Host.scatterAdd scatter_S8x640x1024_S4096x2_S4096x1024_1_01_01_1
    (broadcastInDim S8x640x1024 ![] bcast_S_S8x640x1024 (constant S_ .f32 0x00000000#32)) q u

/-- The experts' network on every row of the buffers. -/
def network (b : FVec F S8x640x1024 .f32) (w1 : FVec F S8x1024x2048 .f32) (b1 : FVec F S8x2048 .f32)
    (w2 : FVec F S8x2048x1024 .f32) (b2 : FVec F S8x1024 .f32) : FVec F S8x640x1024 .f32 :=
  addf (Host.dotGeneral dot_S8x640x2048_S8x2048x1024_S8x640x1024_2_1_1_2_0_0 none
      (maximumf (addf (Host.dotGeneral dot_S8x640x1024_S8x1024x2048_S8x640x2048_2_1_1_2_0_0 none b w1)
          (broadcastInDim S8x640x2048 ![0, 1, 2] bcast_S8x1x2048_S8x640x2048_0_1_2 (broadcastInDim S8x1x2048 ![0, 2] bcast_S8x2048_S8x1x2048_0_2 b1)))
        (broadcastInDim S8x640x2048 ![] bcast_S_S8x640x2048 (constant S_ .f32 0x00000000#32))) w2)
    (broadcastInDim S8x640x1024 ![0, 1, 2] bcast_S8x1x1024_S8x640x1024_0_1_2 (broadcastInDim S8x1x1024 ![0, 2] bcast_S8x1024_S8x1x1024_0_2 b2))

/-- The weight of each choice: its probability over the sum of the two, zero out of capacity. -/
def gates (w : FVec F S2048x2 .f32) (v : IVec S2048x2 1) : FVec F S2048x2 .f32 :=
  mulf (Host.divf w (broadcastInDim S2048x2 ![0, 1] bcast_S2048x1_S2048x2_0_1 (broadcastInDim S2048x1 ![0] bcast_S2048_S2048x1_0
    (Host.reduceAdd w (constant S_ .f32 0x00000000#32) reducesTo_S2048x2_S2048_d1 h_S_)))) (uitofp .f32 v)

/-- The rows read back from the network's output. -/
def gathered (o : FVec F S8x640x1024 .f32) (q : IVec S4096x2 32) : FVec F S4096x1024 .f32 :=
  Host.gather gather_S8x640x1024_S4096x2_S4096x1024_1_01_n_n_01_1_111024 o q

/-- The sum over the tokens of the experts' weighted answers. -/
def pooled (g : FVec F S4096x1024 .f32) (w : FVec F S2048x2 .f32) : FVec F S1x1024 .f32 :=
  Host.reduceAdd (shapeCast _ (Host.reduceAdd (mulf (shapeCast _ g shapeCasts_S4096x1024_S2048x2x1024)
      (broadcastInDim S2048x2x1024 ![0, 1, 2] bcast_S2048x2x1_S2048x2x1024_0_1_2 (broadcastInDim S2048x2x1 ![0, 1] bcast_S2048x2_S2048x2x1_0_1 w)))
    (constant S_ .f32 0x00000000#32) reducesTo_S2048x2x1024_S2048x1024_d1 h_S_) shapeCasts_S2048x1024_S1x2048x1024)
    (constant S_ .f32 0x00000000#32) reducesTo_S1x2048x1024_S1x1024_d1 h_S_

/-- The classifier on the mean. -/
def classified (s : FVec F S1x1024 .f32) (wc : FVec F S1024x10 .f32) (bc : FVec F S10 .f32) : FVec F S1x10 .f32 :=
  addf (Host.dotGeneral dot_S1x1024_S1024x10_S1x10_1_0_0_1_n_n none
    (Host.divf s (broadcastInDim S1x1024 ![] bcast_S_S1x1024 (constant S_ .f32 0x45000000#32))) wc)
    (broadcastInDim S1x10 ![1] bcast_S10_S1x10_1 bc)

/-- The sum over the tokens, from the probabilities on. -/
def pooledOf (p : FVec F S2048x8 .f32) (x : FVec F S1x2048x1024 .f32) (w1 : FVec F S8x1024x2048 .f32) (b1 : FVec F S8x2048 .f32)
    (w2 : FVec F S8x2048x1024 .f32) (b2 : FVec F S8x1024 .f32) : FVec F S1x1024 .f32 :=
  pooled (gathered (network (buffers (pairs (topI p) (clipped (places (oneHot (slots (topI p))))))
        (updates x (valid (places (oneHot (slots (topI p))))))) w1 b1 w2 b2)
      (pairs (topI p) (clipped (places (oneHot (slots (topI p)))))))
    (gates (topW p) (valid (places (oneHot (slots (topI p))))))

/-- What the reference's run leaves is the last stage over the others. -/
theorem result_eq (m : (ℓ : Loc nD τ sig) → Buf (Elt F) ℓ) (c : Dev nD) :
    Cert.ReferenceIdeal.Value.res_main_v95 m c =
      classified (pooledOf (probs (logits (m ((c.tc : Thread nD τ).loc main_arg0)) (m ((c.tc : Thread nD τ).loc main_arg1))
          (m ((c.tc : Thread nD τ).loc main_arg2)))) (m ((c.tc : Thread nD τ).loc main_arg0)) (m ((c.tc : Thread nD τ).loc main_arg3))
          (m ((c.tc : Thread nD τ).loc main_arg4)) (m ((c.tc : Thread nD τ).loc main_arg5)) (m ((c.tc : Thread nD τ).loc main_arg6)))
        (m ((c.tc : Thread nD τ).loc main_arg7)) (m ((c.tc : Thread nD τ).loc main_arg8)) := by
  unfold Cert.ReferenceIdeal.Value.res_main_v95
  rfl

end Cert.ReferenceStages
-- ==== Proof.ReferenceTop.lean ====
module

public import proofs.«01_k».proof.Proof.ReferenceStages
public import proofs.«01_k».proof.Proof.TopTwo
public import Idealize.ShloMosaic.Lib.Pointwise

@[expose] public section

set_option maxRecDepth 16384

noncomputable section

/-! # The reference's choice of experts -/

namespace Cert.ReferenceTop

open Cert.ReferenceIdeal Cert.ReferenceIdeal.Gen Cert.ReferenceStages Cert.TopTwo
open Idealize.ShloMosaic Idealize.SL.Sem Idealize.ShloMosaic.Pointwise

variable (p : FVec Ideal S2048x8 .f32)

/-- A row's experts in order of descending probability. -/
def order (t : Fin 2048) : Fin 8 → Fin 8 :=
  sortedFrom fun a b => FloatOps.cmpfTotal .gt (p (ix2 t a)) (p (ix2 t b)) == 1#1

/-- A row's first two experts in that order are those of its two largest probabilities. -/
theorem order_top (t : Fin 2048) : IsTopTwo (fun e => (p (ix2 t e) : EReal)) (order p t 0) (order p t 1) := by
  refine isTopTwo_sortedFrom _ _ fun a b => ?_
  rw [Ideal.cmpfTotal_def, beq_iff_eq]
  show BitVec.ofBool (decide _) = 1#1 ↔ _
  by_cases h : (p (ix2 t b) : EReal) < p (ix2 t a)
  · rw [decide_eq_true h]; exact ⟨fun _ => h, fun _ => rfl⟩
  · rw [decide_eq_false h]; exact ⟨fun e => absurd e (by decide), fun e => absurd e h⟩

/-- Moving along a row changes the column. -/
theorem along_row (t : Fin 2048) (a b : Fin 8) (h : 1 < S2048x8.rank) : (ix2 t a : S2048x8.Idx).along ⟨1, h⟩ b = ix2 t b := by
  funext q
  match q with
  | ⟨0, _⟩ => rfl
  | ⟨1, _⟩ => rfl

/-- A pair of arrays sorted along the rows by the first, read at an element: both are read at one expert of that row. -/
theorem sorted_row (y : IVec S2048x8 32) (t : Fin 2048) (b : Fin 8) :
    (Host.sort2 S2048x8 1 (fun l r => FloatOps.cmpfTotal .gt l.1 r.1) p y).1 (ix2 t b) = p (ix2 t (order p t b))
    ∧ (Host.sort2 S2048x8 1 (fun l r => FloatOps.cmpfTotal .gt l.1 r.1) p y).2 (ix2 t b) = y (ix2 t (order p t b)) := by
  have h : 1 < S2048x8.rank := by decide
  have o : sortedFrom (fun k k' : Fin 8 => FloatOps.cmpfTotal .gt (p ((ix2 t b : S2048x8.Idx).along ⟨1, h⟩ k)) (p ((ix2 t b : S2048x8.Idx).along ⟨1, h⟩ k')) == 1#1) b
      = order p t b := by
    unfold order
    refine congrArg (fun R => sortedFrom R b) (funext fun k => funext fun k' => ?_)
    exact congrArg₂ (fun u v => FloatOps.cmpfTotal .gt (p u) (p v) == 1#1) (along_row t b k h) (along_row t b k' h)
  have e : (ix2 t b : S2048x8.Idx).along ⟨1, h⟩
      (sortedFrom (fun k k' : Fin 8 => FloatOps.cmpfTotal .gt (p ((ix2 t b : S2048x8.Idx).along ⟨1, h⟩ k)) (p ((ix2 t b : S2048x8.Idx).along ⟨1, h⟩ k')) == 1#1) b)
      = ix2 t (order p t b) := (along_row t b _ h).trans (congrArg (fun q => ix2 t q) o)
  unfold Host.sort2
  rw [dif_pos h]
  exact ⟨congrArg p e, congrArg y e⟩

/-- The first two places of a row of eight. -/
def slot (k : Fin 2) : Fin 8 := ⟨k.val, by have := k.isLt; omega⟩

/-- A row of two, cut from the first two places of a row of eight. -/
theorem cut {α : Type} (x : S2048x8.Idx → α) (h : S2048x8.Slices (fun _ => 0) S2048x2) (t : Fin 2048) (k : Fin 2) :
    extractStridedSlice S2048x2 (fun _ => 0) x h (ix2 t k) = x (ix2 t (slot k)) := by
  refine extractStridedSlice_apply _ _ _ _ (ix2 t (slot k)) fun a => ?_
  fin_cases a
  · exact (Nat.zero_add _).symm
  · exact (Nat.zero_add _).symm

/-- Every element's own expert, as a word. -/
def experts : IVec S2048x8 32 := fun i => if hd : 1 < S2048x8.rank then iotaInDim S2048x8 32 ⟨1, hd⟩ i else 0#32

/-- The experts the reference chooses. -/
theorem topI_apply (t : Fin 2048) (k : Fin 2) : topI p (ix2 t k) = BitVec.ofNat 32 (order p t (slot k)).val :=
  (cut (Host.sort2 S2048x8 1 (fun l r => FloatOps.cmpfTotal .gt l.1 r.1) p experts).2 sliceFits_S2048x8_S2048x2 t k).trans
    (((sorted_row p experts t (slot k)).2).trans rfl)

/-- Their probabilities. -/
theorem topW_apply (t : Fin 2048) (k : Fin 2) : topW p (ix2 t k) = p (ix2 t (order p t (slot k))) :=
  (cut (Host.sort2 S2048x8 1 (fun l r => FloatOps.cmpfTotal .gt l.1 r.1) p experts).1 sliceFits_S2048x8_S2048x2 t k).trans
    (sorted_row p experts t (slot k)).1

end Cert.ReferenceTop
-- ==== Proof.ReferenceLayers.lean ====
module

public import proofs.«01_k».proof.Proof.ReferenceStages
public import proofs.«01_k».proof.Proof.Numbers
public import proofs.«01_k».proof.Proof.SoftmaxRow
public import Idealize.ShloMosaic.Lib.Pointwise

@[expose] public section

set_option maxRecDepth 16384

noncomputable section

/-! # The reference's float stages, element by element -/

namespace Cert.ReferenceLayers

open Cert.ReferenceIdeal Cert.ReferenceIdeal.Gen Cert.ReferenceStages Cert.Numbers Cert.SoftmaxRow
open Idealize.ShloMosaic Idealize.SL.Sem Idealize.ShloMosaic.Pointwise

/-- The logits. -/
theorem logits_apply (x : FVec Ideal S1x2048x1024 .f32) (wr : FVec Ideal S1024x8 .f32) (br : FVec Ideal S8 .f32) (t : Fin 2048) (e : Fin 8) :
    (logits x wr br (ix2 t e) : EReal) = (∑ d : Fin 1024, (x (ix3 0 t d) : EReal) * wr (ix2 d e)) + br (ix1 e) := by
  pointwise [logits, tokens]

/-- The probabilities are the softmax of each row of logits. -/
theorem probs_apply (l : FVec Ideal S2048x8 .f32) (t : Fin 2048) (e : Fin 8) :
    (probs l (ix2 t e) : EReal) = softmax (fun k => (l (ix2 t k) : EReal)) e := by
  pointwise [probs, exps]
  rw [bits_bot]
  simp only [bot_sup_eq, max_eq_right bot_le]
  rfl

/-- A choice's row is the token, zero where the choice is out of capacity. -/
theorem updates_apply (x : FVec Ideal S1x2048x1024 .f32) (v : IVec S2048x2 1) (q : Fin 4096) (d : Fin 1024) :
    (updates x v (ix2 q d) : EReal)
      = x (ix3 0 ⟨q.val / 2, by omega⟩ d) * FloatOps.uitofp (F := Ideal) .f32 (v (ix2 ⟨q.val / 2, by omega⟩ ⟨q.val % 2, by omega⟩)) := by
  pointwise [updates, tokens]

/-- The experts' network on a row of the buffers. -/
theorem network_apply (b : FVec Ideal S8x640x1024 .f32) (w1 : FVec Ideal S8x1024x2048 .f32) (b1 : FVec Ideal S8x2048 .f32)
    (w2 : FVec Ideal S8x2048x1024 .f32) (b2 : FVec Ideal S8x1024 .f32) (e : Fin 8) (p : Fin 640) (d : Fin 1024) :
    (network b w1 b1 w2 b2 (ix3 e p d) : EReal)
      = (∑ f : Fin 2048, max ((∑ d' : Fin 1024, (b (ix3 e p d') : EReal) * w1 (ix3 e d' f)) + b1 (ix2 e f)) 0 * w2 (ix3 e f d)) + b2 (ix2 e d) := by
  pointwise [network]

/-- The gates. -/
theorem gates_apply (w : FVec Ideal S2048x2 .f32) (v : IVec S2048x2 1) (t : Fin 2048) (k : Fin 2) :
    (gates w v (ix2 t k) : EReal) = Ideal.div (w (ix2 t k)) ((w (ix2 t 0) : EReal) + w (ix2 t 1))
      * FloatOps.uitofp (F := Ideal) .f32 (v (ix2 t k)) := by
  pointwise [gates]
  rw [Fin.sum_univ_two]

/-- The sum over the tokens and their choices. -/
theorem pooled_apply (g : FVec Ideal S4096x1024 .f32) (w : FVec Ideal S2048x2 .f32) (d : Fin 1024) :
    (pooled g w (ix2 0 d) : EReal)
      = ∑ t : Fin 2048, ∑ k : Fin 2, (g (ix2 ⟨t.val * 2 + k.val, by omega⟩ d) : EReal) * w (ix2 t k) := by
  pointwise [pooled]

/-- The classifier on the mean. -/
theorem classified_apply (s : FVec Ideal S1x1024 .f32) (wc : FVec Ideal S1024x10 .f32) (bc : FVec Ideal S10 .f32) (n : Fin 10) :
    (classified s wc bc (ix2 0 n) : EReal)
      = (∑ d : Fin 1024, Ideal.div (s (ix2 0 d)) (Ideal.ofBits .f32 1157627904#32) * wc (ix2 d n)) + bc (ix1 n) := by
  pointwise [classified]

end Cert.ReferenceLayers
-- ==== Proof.Words.lean ====
module

public import proofs.«01_k».proof.Proof.Places
public import Idealize.ShloMosaic.PureOps.Reduce
public import Idealize.ShloMosaic.Lib.Routing.BitFacts
public import Idealize.ShloMosaic.Lib.Routing.OpsPair
public import Mathlib.Data.BitVec

@[expose] public section

/-! # Counting in 32-bit words

The reference counts in signed 32-bit words. All its counts stay below `2 ^ 31`, so the words hold the numbers. -/

namespace Cert.Words

open Idealize.ShloMosaic Idealize.ShloMosaic.Routing

/-- A small number's word, read signed. -/
theorem toInt_small {n : ℕ} (h : n < 2 ^ 31) : (BitVec.ofNat 32 n).toInt = (n : ℤ) :=
  StableHlo.Predicate.toInt_ofNat_small n h

/-- The signed order of small numbers' words is the numbers' order. -/
theorem cmpi_slt {a b : ℕ} (ha : a < 2 ^ 31) (hb : b < 2 ^ 31) :
    IntOp.cmpi .slt (BitVec.ofNat 32 a) (BitVec.ofNat 32 b) = BitVec.ofBool (decide (a < b)) :=
  congrArg BitVec.ofBool (slt_ofNat32 ha hb)

/-- A small number's word held between 0 and 639 is the word of the lesser of it and 639. -/
theorem clip {n : ℕ} (h : n < 2 ^ 31) : IntOp.minsi 639#32 (IntOp.maxsi 0#32 (BitVec.ofNat 32 n)) = BitVec.ofNat 32 (min 639 n) := by
  have e : IntOp.maxsi 0#32 (BitVec.ofNat 32 n) = BitVec.ofNat 32 n := by
    show (if (BitVec.ofNat 32 n).slt (BitVec.ofNat 32 0) then 0#32 else BitVec.ofNat 32 n) = _
    rw [slt_ofNat32 h (by norm_num)]
    simp
  rw [e]
  show (if (BitVec.ofNat 32 639).slt (BitVec.ofNat 32 n) then 639#32 else BitVec.ofNat 32 n) = _
  rw [slt_ofNat32 (by norm_num) h]
  by_cases hn : 639 < n
  · rw [if_pos (decide_eq_true hn), min_eq_left hn.le]
  · rw [if_neg (by simpa using hn), min_eq_right (by omega)]

/-- A word that is not negative is not wrapped. -/
theorem unwrapped {n : ℕ} (h : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat, Nat.mod_eq_of_lt (by omega)]; exact h)

/-- The word of a sum is the sum of the words. -/
theorem ofNat_sum {ι : Type} (s : Finset ι) (f : ι → ℕ) : BitVec.ofNat 32 (∑ i ∈ s, f i) = ∑ i ∈ s, BitVec.ofNat 32 (f i) := by
  classical
  induction s using Finset.induction_on with
  | empty => simp
  | insert a s ha ih => rw [Finset.sum_insert ha, Finset.sum_insert ha, BitVec.ofNat_add, ih]

/-- A wrapping sum, folded from zero. -/
theorem fold_addi {ι : Type} (s : Finset ι) (f : ι → BitVec 32) : s.fold IntOp.addi 0#32 f = ∑ i ∈ s, f i := rfl

/-- A yes-or-no word of an equality, widened. -/
theorem widen (P : Prop) [Decidable P] : BitVec.setWidth 32 (BitVec.ofBool (decide P)) = BitVec.ofNat 32 (if P then 1 else 0) := by
  by_cases h : P
  · rw [decide_eq_true h, if_pos h]; rfl
  · rw [decide_eq_false h, if_neg h]; rfl

/-- One less than a count that includes its own entry, kept only at its own expert. -/
theorem own (n : ℕ) (P : Prop) [Decidable P] :
    IntOp.muli (IntOp.subi (BitVec.ofNat 32 (n + if P then 1 else 0)) 1#32) (BitVec.ofNat 32 (if P then 1 else 0))
      = if P then BitVec.ofNat 32 n else 0#32 := by
  by_cases h : P
  · simp only [if_pos h]
    show (BitVec.ofNat 32 (n + 1) - 1#32) * 1#32 = _
    rw [BitVec.ofNat_add, BitVec.mul_one]
    exact BitVec.add_sub_cancel _ _
  · simp only [if_neg h]
    show _ * 0#32 = _
    exact BitVec.mul_zero

end Cert.Words
-- ==== Proof.ReferencePlaces.lean ====
module

public import proofs.«01_k».proof.Proof.ReferenceStages
public import proofs.«01_k».proof.Proof.Numbers
public import proofs.«01_k».proof.Proof.Words
public import proofs.«01_k».proof.Proof.Assignment
public import Idealize.ShloMosaic.Lib.Pointwise
public import Idealize.ShloMosaic.Lib.Routing.OpsOne

@[expose] public section

set_option maxRecDepth 16384

noncomputable section

/-! # The reference's places

From the two experts of every token the reference computes, in words, the place of each choice inside its expert, whether
it is within the capacity, and the row of the buffers it goes to. -/

namespace Cert.ReferencePlaces

open Cert.ReferenceIdeal Cert.ReferenceIdeal.Gen Cert.ReferenceStages
open Cert.Numbers Cert.Words Cert.Places Cert.Assignment
open Idealize.ShloMosaic Idealize.SL.Sem Idealize.ShloMosaic.Pointwise

variable {i j : Fin 2048 → Fin 8} {I : IVec S2048x2 32}

/-- The choices in order of priority. -/
theorem slots_eq (h : ∀ t k, I (ix2 t k) = BitVec.ofNat 32 (choice i j k t).val) (r : Fin 4096) :
    slots I (ix1 r) = BitVec.ofNat 32 (both i j r).val := by
  pointwise [slots]
  rw [h, ← both_position]
  congr 3
  exact Fin.ext (by simp only [position]; omega)

/-- A choice as ones and zeros. -/
theorem oneHot_eq (h : ∀ t k, I (ix2 t k) = BitVec.ofNat 32 (choice i j k t).val) (r : Fin 4096) (e : Fin 8) :
    oneHot (slots I) (ix2 r e) = BitVec.ofNat 32 (if both i j r = e then 1 else 0) := by
  pointwise [oneHot]
  rw [slots_eq h, cmpi_eq, widen]
  simp only [expert_inj]

/-- How many choices up to each one name an expert. -/
theorem counts_eq (h : ∀ t k, I (ix2 t k) = BitVec.ofNat 32 (choice i j k t).val) (r : Fin 4096) (e : Fin 8) :
    counts (oneHot (slots I)) (ix2 r e) = BitVec.ofNat 32 (before (both i j) r.val e + if both i j r = e then 1 else 0) := by
  unfold counts
  rw [ix2_eq_valueIdx]
  refine (Routing.cumsum_rows_sum (A := 4096) (Am1 := 4095) (N := 8) rfl _ _ rfl _ _ r e).trans ?_
  rw [← upto_eq (both i j) r e, ofNat_sum]
  refine Finset.sum_congr rfl fun s _ => ?_
  rw [← ix2_eq_valueIdx, oneHot_eq h]
  split <;> rfl

/-- The place of each choice. -/
theorem places_eq (h : ∀ t k, I (ix2 t k) = BitVec.ofNat 32 (choice i j k t).val) (r : Fin 4096) :
    places (oneHot (slots I)) (ix1 r) = BitVec.ofNat 32 (before (both i j) r.val (both i j r)) := by
  pointwise [places]
  rw [fold_addi]
  simp only [counts_eq h, oneHot_eq h, own]
  exact (Finset.sum_ite_eq _ _ _).trans (if_pos (Finset.mem_univ _))

/-- The place of a token's choice. -/
theorem places_choice (h : ∀ t k, I (ix2 t k) = BitVec.ofNat 32 (choice i j k t).val) (t : Fin 2048) (k : Fin 2) (hb : k.val * 2048 + t.val < 4096) :
    places (oneHot (slots I)) (ix1 ⟨k.val * 2048 + t.val, hb⟩) = BitVec.ofNat 32 (place i j k t) := by
  rw [places_eq h]
  unfold place
  rw [← both_position]
  rfl

/-- A place is a small number. -/
theorem place_small (k : Fin 2) (t : Fin 2048) : place i j k t < 2 ^ 31 :=
  (before_le _ _ _).trans_lt (by norm_num)

/-- Whether a choice is within the capacity. -/
theorem valid_eq (h : ∀ t k, I (ix2 t k) = BitVec.ofNat 32 (choice i j k t).val) (t : Fin 2048) (k : Fin 2) :
    valid (places (oneHot (slots I))) (ix2 t k) = BitVec.ofBool (decide (place i j k t < 640)) := by
  pointwise [valid]
  rw [places_choice h]
  exact cmpi_slt (place_small k t) (by norm_num)

/-- The place held inside the buffer. -/
theorem clipped_eq (h : ∀ t k, I (ix2 t k) = BitVec.ofNat 32 (choice i j k t).val) (t : Fin 2048) (k : Fin 2) :
    clipped (places (oneHot (slots I))) (ix2 t k) = BitVec.ofNat 32 (min 639 (place i j k t)) := by
  pointwise [clipped]
  rw [places_choice h]
  exact clip (place_small k t)

/-- The token of a row, the rows taken token by token. -/
def tokenOf (q : Fin 4096) : Fin 2048 := ⟨q.val / 2, by omega⟩

/-- The choice of a row. -/
def choiceOf (q : Fin 4096) : Fin 2 := ⟨q.val % 2, by omega⟩

/-- The expert of a row of pairs. -/
theorem pairs_expert (h : ∀ t k, I (ix2 t k) = BitVec.ofNat 32 (choice i j k t).val) (q : Fin 4096) :
    pairs I (clipped (places (oneHot (slots I)))) (ix2 q 0) = BitVec.ofNat 32 (choice i j (choiceOf q) (tokenOf q)).val := by
  pointwise [pairs]
  rw [h]
  exact unwrapped (by have := (choice i j (choiceOf q) (tokenOf q)).isLt; omega) _

/-- The place of a row of pairs. -/
theorem pairs_place (h : ∀ t k, I (ix2 t k) = BitVec.ofNat 32 (choice i j k t).val) (q : Fin 4096) :
    pairs I (clipped (places (oneHot (slots I)))) (ix2 q 1) = BitVec.ofNat 32 (min 639 (place i j (choiceOf q) (tokenOf q))) := by
  pointwise [pairs]
  rw [clipped_eq h]
  exact unwrapped (by omega) _

end Cert.ReferencePlaces
-- ==== Proof.ReferenceRows.lean ====
module

public import proofs.«01_k».proof.Proof.ReferenceStages
public import proofs.«01_k».proof.Proof.Words
public import Idealize.ShloMosaic.Lib.Pointwise

@[expose] public section

set_option maxRecDepth 16384

noncomputable section

/-! # Writing and reading rows of the experts' buffers

An array of index pairs names, for every row, an expert and a place in its buffer. -/

namespace Cert.ReferenceRows

open Cert.ReferenceIdeal Cert.ReferenceIdeal.Gen Cert.ReferenceStages Cert.Words
open Idealize.ShloMosaic Idealize.SL.Sem Idealize.ShloMosaic.Pointwise

variable {Q : IVec S4096x2 32} {E : Fin 4096 → Fin 8} {P : Fin 4096 → Fin 640}

/-- The expert at which a row is written. -/
theorem start_expert (idx : IVec S4096x2 32) (q : Fin 4096) (d : Fin 1024) :
    scatter_S8x640x1024_S4096x2_S4096x1024_1_01_01_1.start (ix2 q d) idx 0 = (idx (ix2 q 0)).toInt := by
  have hm : (0 : Fin 3) ∈ scatter_S8x640x1024_S4096x2_S4096x1024_1_01_01_1.scatterDimsToOperandDims := by decide
  have hs : scatter_S8x640x1024_S4096x2_S4096x1024_1_01_01_1.siIdx (ix2 q d) ⟨List.idxOf (0 : Fin 3) scatter_S8x640x1024_S4096x2_S4096x1024_1_01_01_1.scatterDimsToOperandDims, List.idxOf_lt_length_iff.2 hm⟩ = ix2 q 0 := by
    funext b
    match b with
    | ⟨0, _⟩ => rfl
    | ⟨1, _⟩ => rfl
  unfold ScatterDims.start
  rw [dif_pos hm, hs]

/-- The place at which a row is written. -/
theorem start_place (idx : IVec S4096x2 32) (q : Fin 4096) (d : Fin 1024) :
    scatter_S8x640x1024_S4096x2_S4096x1024_1_01_01_1.start (ix2 q d) idx 1 = (idx (ix2 q 1)).toInt := by
  have hm : (1 : Fin 3) ∈ scatter_S8x640x1024_S4096x2_S4096x1024_1_01_01_1.scatterDimsToOperandDims := by decide
  have hs : scatter_S8x640x1024_S4096x2_S4096x1024_1_01_01_1.siIdx (ix2 q d) ⟨List.idxOf (1 : Fin 3) scatter_S8x640x1024_S4096x2_S4096x1024_1_01_01_1.scatterDimsToOperandDims, List.idxOf_lt_length_iff.2 hm⟩ = ix2 q 1 := by
    funext b
    match b with
    | ⟨0, _⟩ => rfl
    | ⟨1, _⟩ => rfl
  unfold ScatterDims.start
  rw [dif_pos hm, hs]

/-- Where a row's element lands. -/
theorem lands (hE : ∀ q, Q (ix2 q 0) = BitVec.ofNat 32 (E q).val) (hP : ∀ q, Q (ix2 q 1) = BitVec.ofNat 32 (P q).val)
    (q : Fin 4096) (d' : Fin 1024) (e : Fin 8) (p : Fin 640) (d : Fin 1024) :
    scatter_S8x640x1024_S4096x2_S4096x1024_1_01_01_1.resultIdx? (ix2 q d') Q = some (ix3 e p d) ↔ E q = e ∧ P q = p ∧ d' = d := by
  rw [Routing.resultIdx?_eq_some]
  have s0 : scatter_S8x640x1024_S4096x2_S4096x1024_1_01_01_1.start (ix2 q d') Q 0 = ((E q).val : ℤ) := by
    rw [start_expert, hE, toInt_small (by have := (E q).isLt; omega)]
  have s1 : scatter_S8x640x1024_S4096x2_S4096x1024_1_01_01_1.start (ix2 q d') Q 1 = ((P q).val : ℤ) := by
    rw [start_place, hP, toInt_small (by have := (P q).isLt; omega)]
  have s2 : scatter_S8x640x1024_S4096x2_S4096x1024_1_01_01_1.start (ix2 q d') Q 2 = 0 := rfl
  have w0 : scatter_S8x640x1024_S4096x2_S4096x1024_1_01_01_1.window (ix2 q d') 0 = 0 := rfl
  have w1 : scatter_S8x640x1024_S4096x2_S4096x1024_1_01_01_1.window (ix2 q d') 1 = 0 := rfl
  have w2 : scatter_S8x640x1024_S4096x2_S4096x1024_1_01_01_1.window (ix2 q d') 2 = d'.val := rfl
  constructor
  · intro h
    have h0 := h 0
    have h1 := h 1
    have h2 := h 2
    rw [s0, w0] at h0
    rw [s1, w1] at h1
    rw [s2, w2] at h2
    have h0' : ((E q).val : ℤ) + (0 : ℕ) = (e.val : ℤ) := h0
    have h1' : ((P q).val : ℤ) + (0 : ℕ) = (p.val : ℤ) := h1
    have h2' : (0 : ℤ) + (d'.val : ℕ) = (d.val : ℤ) := h2
    exact ⟨Fin.ext (by omega), Fin.ext (by omega), Fin.ext (by omega)⟩
  · rintro ⟨rfl, rfl, rfl⟩ a
    fin_cases a
    · exact (congrArg₂ (fun (x : ℤ) (y : ℕ) => x + (y : ℤ)) s0 w0).trans (add_zero _)
    · exact (congrArg₂ (fun (x : ℤ) (y : ℕ) => x + (y : ℤ)) s1 w1).trans (add_zero _)
    · exact (congrArg₂ (fun (x : ℤ) (y : ℕ) => x + (y : ℤ)) s2 w2).trans (zero_add _)

/-- An element of the buffers is the sum of the rows that name its place. -/
theorem buffers_apply (hE : ∀ q, Q (ix2 q 0) = BitVec.ofNat 32 (E q).val) (hP : ∀ q, Q (ix2 q 1) = BitVec.ofNat 32 (P q).val)
    (u : FVec Ideal S4096x1024 .f32) (e : Fin 8) (p : Fin 640) (d : Fin 1024) :
    (buffers Q u (ix3 e p d) : EReal) = ∑ q : Fin 4096, if E q = e ∧ P q = p then (u (ix2 q d) : EReal) else 0 := by
  have h : (buffers Q u (ix3 e p d) : EReal) = Ideal.ofBits .f32 0x00000000#32
      + ∑ k ∈ Finset.univ.filter (fun k => scatter_S8x640x1024_S4096x2_S4096x1024_1_01_01_1.resultIdx? k Q = some (ix3 e p d)), (u k : EReal) := rfl
  rw [h, Ideal.ofBits_zero_f32, zero_add, Finset.sum_filter, sum_idx2]
  refine Finset.sum_congr rfl fun q _ => ?_
  simp only [lands hE hP]
  by_cases hq : E q = e ∧ P q = p
  · simp [hq.1, hq.2]
  · rw [if_neg hq]
    refine Finset.sum_eq_zero fun d' _ => if_neg fun h => hq ⟨h.1, h.2.1⟩

/-- The expert at which a row is read. -/
theorem read_expert (idx : IVec S4096x2 32) (q : Fin 4096) (d : Fin 1024) :
    (gather_S8x640x1024_S4096x2_S4096x1024_1_01_n_n_01_1_111024.operandIdx (ix2 q d) idx 0).val = min (idx (ix2 q 0)).toInt.toNat 7 := by
  show gather_S8x640x1024_S4096x2_S4096x1024_1_01_n_n_01_1_111024.start (ix2 q d) idx 0 + gather_S8x640x1024_S4096x2_S4096x1024_1_01_n_n_01_1_111024.batchCoord (ix2 q d) 0 + gather_S8x640x1024_S4096x2_S4096x1024_1_01_n_n_01_1_111024.offCoord (ix2 q d) 0 = _
  have hm : (0 : Fin 3) ∈ gather_S8x640x1024_S4096x2_S4096x1024_1_01_n_n_01_1_111024.startIndexMap := by decide
  have hs : gather_S8x640x1024_S4096x2_S4096x1024_1_01_n_n_01_1_111024.siIdx (ix2 q d) ⟨List.idxOf (0 : Fin 3) gather_S8x640x1024_S4096x2_S4096x1024_1_01_n_n_01_1_111024.startIndexMap, List.idxOf_lt_length_iff.2 hm⟩ = ix2 q 0 := by
    funext b
    match b with
    | ⟨0, _⟩ => rfl
    | ⟨1, _⟩ => rfl
  rw [GatherDims.batchCoord_eq_zero _ _ _ (by decide), GatherDims.offCoord_eq_zero _ _ _ (by decide)]
  unfold GatherDims.start
  rw [dif_pos hm, hs]
  rfl

/-- The place at which a row is read. -/
theorem read_place (idx : IVec S4096x2 32) (q : Fin 4096) (d : Fin 1024) :
    (gather_S8x640x1024_S4096x2_S4096x1024_1_01_n_n_01_1_111024.operandIdx (ix2 q d) idx 1).val = min (idx (ix2 q 1)).toInt.toNat 639 := by
  show gather_S8x640x1024_S4096x2_S4096x1024_1_01_n_n_01_1_111024.start (ix2 q d) idx 1 + gather_S8x640x1024_S4096x2_S4096x1024_1_01_n_n_01_1_111024.batchCoord (ix2 q d) 1 + gather_S8x640x1024_S4096x2_S4096x1024_1_01_n_n_01_1_111024.offCoord (ix2 q d) 1 = _
  have hm : (1 : Fin 3) ∈ gather_S8x640x1024_S4096x2_S4096x1024_1_01_n_n_01_1_111024.startIndexMap := by decide
  have hs : gather_S8x640x1024_S4096x2_S4096x1024_1_01_n_n_01_1_111024.siIdx (ix2 q d) ⟨List.idxOf (1 : Fin 3) gather_S8x640x1024_S4096x2_S4096x1024_1_01_n_n_01_1_111024.startIndexMap, List.idxOf_lt_length_iff.2 hm⟩ = ix2 q 1 := by
    funext b
    match b with
    | ⟨0, _⟩ => rfl
    | ⟨1, _⟩ => rfl
  rw [GatherDims.batchCoord_eq_zero _ _ _ (by decide), GatherDims.offCoord_eq_zero _ _ _ (by decide)]
  unfold GatherDims.start
  rw [dif_pos hm, hs]
  rfl

/-- A row read back is the row of the buffers it names. -/
theorem gathered_apply (hE : ∀ q, Q (ix2 q 0) = BitVec.ofNat 32 (E q).val) (hP : ∀ q, Q (ix2 q 1) = BitVec.ofNat 32 (P q).val)
    (o : FVec Ideal S8x640x1024 .f32) (q : Fin 4096) (d : Fin 1024) :
    gathered o Q (ix2 q d) = o (ix3 (E q) (P q) d) := by
  unfold gathered Host.gather
  refine congrArg o (funext fun a => Fin.ext ?_)
  have hE' := toInt_small (n := (E q).val) (by have := (E q).isLt; omega)
  have hP' := toInt_small (n := (P q).val) (by have := (P q).isLt; omega)
  have := (E q).isLt
  have := (P q).isLt
  fin_cases a
  · refine (read_expert Q q d).trans ?_
    rw [hE, hE']
    show min ((E q).val : ℤ).toNat 7 = (E q).val
    omega
  · refine (read_place Q q d).trans ?_
    rw [hP, hP']
    show min ((P q).val : ℤ).toNat 639 = (P q).val
    omega
  · show 0 + 0 + d.val = d.val
    omega

end Cert.ReferenceRows
-- ==== Proof.ReferenceValue.lean ====
module

public import proofs.«01_k».proof.Proof.ReferenceTop
public import proofs.«01_k».proof.Proof.ReferenceLayers
public import proofs.«01_k».proof.Proof.ReferencePlaces
public import proofs.«01_k».proof.Proof.ReferenceRows
public import proofs.«01_k».proof.Proof.Layer

@[expose] public section

set_option maxRecDepth 16384

noncomputable section

/-! # What the reference computes

A choice within the capacity has a row of the buffers to itself, and that row is its token. A choice out of the capacity
reads some row, but its gate is zero. -/

namespace Cert.ReferenceValue

open Cert.ReferenceIdeal Cert.ReferenceIdeal.Gen Cert.ReferenceStages Cert.Numbers
open Cert.ReferenceTop Cert.ReferenceLayers Cert.ReferencePlaces Cert.ReferenceRows
open Cert.Assignment Cert.Layer Cert.SoftmaxRow Cert.TopTwo
open Idealize.ShloMosaic Idealize.SL.Sem Idealize.ShloMosaic.Pointwise

variable (p : FVec Ideal S2048x8 .f32)

/-- The expert of a token's largest probability. -/
def best (t : Fin 2048) : Fin 8 := order p t 0

/-- The expert of a token's second largest probability. -/
def next (t : Fin 2048) : Fin 8 := order p t 1

/-- The expert chosen, first or second. -/
theorem order_slot (t : Fin 2048) (k : Fin 2) : order p t (slot k) = choice (best p) (next p) k t := by
  fin_cases k
  · rfl
  · rfl

/-- The words of the chosen experts. -/
theorem chosen (t : Fin 2048) (k : Fin 2) : topI p (ix2 t k) = BitVec.ofNat 32 (choice (best p) (next p) k t).val := by
  rw [topI_apply, order_slot]

/-- A choice's place, held inside the buffer. -/
def held (q : Fin 4096) : Fin 640 := ⟨min 639 (place (best p) (next p) (choiceOf q) (tokenOf q)), by omega⟩

/-- The first word of a pair is the chosen expert. -/
theorem pair_expert (q : Fin 4096) :
    pairs (topI p) (clipped (places (oneHot (slots (topI p))))) (ix2 q 0)
      = BitVec.ofNat 32 (choice (best p) (next p) (choiceOf q) (tokenOf q)).val :=
  pairs_expert (chosen p) q

/-- The second word of a pair is the held place. -/
theorem pair_place (q : Fin 4096) :
    pairs (topI p) (clipped (places (oneHot (slots (topI p))))) (ix2 q 1) = BitVec.ofNat 32 (held p q).val :=
  pairs_place (chosen p) q

/-- The row of a token's choice. -/
def row (t : Fin 2048) (k : Fin 2) : Fin 4096 := ⟨t.val * 2 + k.val, by omega⟩

/-- The token of a choice's row is the choice's token. -/
theorem tokenOf_row (t : Fin 2048) (k : Fin 2) : tokenOf (row t k) = t :=
  Fin.ext (by show (t.val * 2 + k.val) / 2 = t.val; omega)

/-- The choice of a choice's row is that choice. -/
theorem choiceOf_row (t : Fin 2048) (k : Fin 2) : choiceOf (row t k) = k :=
  Fin.ext (by show (t.val * 2 + k.val) % 2 = k.val; omega)

/-- Every row is that of its own token and choice. -/
theorem row_eq (q : Fin 4096) : row (tokenOf q) (choiceOf q) = q :=
  Fin.ext (by show q.val / 2 * 2 + q.val % 2 = q.val; omega)

/-- A row to write is the token, or zero when its choice is out of the capacity. -/
theorem update_eq (x : FVec Ideal S1x2048x1024 .f32) (q : Fin 4096) (d : Fin 1024) :
    (updates x (valid (places (oneHot (slots (topI p))))) (ix2 q d) : EReal)
      = x (ix3 0 (tokenOf q) d) * if place (best p) (next p) (choiceOf q) (tokenOf q) < 640 then 1 else 0 := by
  rw [updates_apply, show (ix2 ⟨q.val / 2, by omega⟩ ⟨q.val % 2, by omega⟩ : S2048x2.Idx) = ix2 (tokenOf q) (choiceOf q) from rfl,
    valid_eq (chosen p), uitofp_bool]
  simp only [decide_eq_true_eq]
  rfl

/-- The buffers hold a choice within the capacity at its own place. -/
theorem buffer_eq (x : FVec Ideal S1x2048x1024 .f32) (t : Fin 2048) (k : Fin 2) (h : place (best p) (next p) k t < 640) (d : Fin 1024) :
    (buffers (pairs (topI p) (clipped (places (oneHot (slots (topI p)))))) (updates x (valid (places (oneHot (slots (topI p))))))
        (ix3 (choice (best p) (next p) k t) (held p (row t k)) d) : EReal) = x (ix3 0 t d) := by
  rw [buffers_apply (pair_expert p) (pair_place p), Finset.sum_eq_single (row t k)]
  · rw [update_eq, tokenOf_row, choiceOf_row, if_pos ⟨rfl, rfl⟩, if_pos h, mul_one]
  · intro q _ hq
    split
    · rename_i hc
      rw [update_eq]
      by_cases hv : place (best p) (next p) (choiceOf q) (tokenOf q) < 640
      · exfalso
        apply hq
        have hp := congrArg Fin.val hc.2
        simp only [held, tokenOf_row, choiceOf_row] at hp
        have := place_injective (i := best p) (j := next p) hc.1 (by omega)
        rw [← row_eq q, this.1, this.2]
      · rw [if_neg hv, mul_zero]
    · rfl
  · exact fun hn => absurd (Finset.mem_univ _) hn

/-- The gates. -/
theorem gate_eq (t : Fin 2048) (k : Fin 2) :
    (gates (topW p) (valid (places (oneHot (slots (topI p))))) (ix2 t k) : EReal)
      = gate (best p) (next p) (fun t e => (p (ix2 t e) : EReal)) k t := by
  rw [gates_apply, valid_eq (chosen p), uitofp_bool, topW_apply, topW_apply, topW_apply, order_slot]
  simp only [decide_eq_true_eq]
  rfl

/-- The sum over the tokens and their choices, row by row. -/
theorem pooled_rows (g : FVec Ideal S4096x1024 .f32) (w : FVec Ideal S2048x2 .f32) (d : Fin 1024) :
    (pooled g w (ix2 0 d) : EReal) = ∑ t : Fin 2048, ∑ k : Fin 2, (g (ix2 (row t k) d) : EReal) * w (ix2 t k) :=
  pooled_apply g w d

/-- The pooled sum is the layer's total. -/
theorem pooledOf_eq (x : FVec Ideal S1x2048x1024 .f32) (w1 : FVec Ideal S8x1024x2048 .f32) (b1 : FVec Ideal S8x2048 .f32)
    (w2 : FVec Ideal S8x2048x1024 .f32) (b2 : FVec Ideal S8x1024 .f32) (d : Fin 1024) :
    (pooledOf p x w1 b1 w2 b2 (ix2 0 d) : EReal)
      = total (best p) (next p) (fun t e => (p (ix2 t e) : EReal)) (fun t d => x (ix3 0 t d)) (fun e d f => w1 (ix3 e d f))
          (fun e f => b1 (ix2 e f)) (fun e f => w2 (ix3 e f d)) (fun e => b2 (ix2 e d)) := by
  unfold pooledOf total
  refine (pooled_rows _ _ d).trans (Finset.sum_congr rfl fun t _ => Finset.sum_congr rfl fun k _ => ?_)
  rw [gate_eq]
  by_cases h : place (best p) (next p) k t < 640
  · rw [gathered_apply (pair_expert p) (pair_place p), tokenOf_row, choiceOf_row, network_apply]
    simp only [buffer_eq p x t k h]
    rfl
  · unfold gate
    rw [if_neg h, mul_zero, mul_zero, mul_zero]

/-- A token's first two experts are those of its two largest probabilities. -/
theorem top (t : Fin 2048) : IsTopTwo (fun e => (p (ix2 t e) : EReal)) (best p t) (next p t) := order_top p t

end Cert.ReferenceValue
-- ==== Proof.Equation.lean ====
module

public import proofs.«01_k».proof.Proof.KernelValue
public import proofs.«01_k».proof.Proof.ReferenceValue

@[expose] public section

set_option maxRecDepth 16384

noncomputable section

/-! # The two results agree -/

namespace Cert.Equation

open Cert.ReferenceIdeal.Gen Cert.ReferenceStages Cert.ReferenceLayers Cert.ReferenceValue
open Cert.Layer Cert.SoftmaxRow
open Idealize.ShloMosaic Idealize.ShloMosaic.TcCoe Idealize.SL.Sem Idealize.ShloMosaic.Pointwise

/-- The reference's result on given arrays: the layer's total, divided by the number of tokens and classified. -/
theorem reference_eq (x : FVec Ideal Cert.ReferenceIdeal.S1x2048x1024 .f32) (wr : FVec Ideal Cert.ReferenceIdeal.S1024x8 .f32)
    (br : FVec Ideal Cert.ReferenceIdeal.S8 .f32) (w1 : FVec Ideal Cert.ReferenceIdeal.S8x1024x2048 .f32)
    (b1 : FVec Ideal Cert.ReferenceIdeal.S8x2048 .f32) (w2 : FVec Ideal Cert.ReferenceIdeal.S8x2048x1024 .f32)
    (b2 : FVec Ideal Cert.ReferenceIdeal.S8x1024 .f32) (wc : FVec Ideal Cert.ReferenceIdeal.S1024x10 .f32)
    (bc : FVec Ideal Cert.ReferenceIdeal.S10 .f32) :
    ∃ i j : Fin 2048 → Fin 8,
      (∀ t, TopTwo.IsTopTwo (softmax (score (fun t d => x (ix3 0 t d)) (fun d e => wr (ix2 d e)) (fun e => br (ix1 e)) t)) (i t) (j t))
      ∧ ∀ n : Fin 10, (classified (pooledOf (probs (logits x wr br)) x w1 b1 w2 b2) wc bc (ix2 0 n) : EReal)
        = (∑ d : Fin 1024, Ideal.div (total i j
              (fun t => softmax (score (fun t d => x (ix3 0 t d)) (fun d e => wr (ix2 d e)) (fun e => br (ix1 e)) t))
              (fun t d => x (ix3 0 t d)) (fun e d f => w1 (ix3 e d f)) (fun e f => b1 (ix2 e f)) (fun e f => w2 (ix3 e f d))
              (fun e => b2 (ix2 e d))) (Ideal.ofBits .f32 1157627904#32) * wc (ix2 d n)) + bc (ix1 n) := by
  have hp : (fun t e => (probs (logits x wr br) (ix2 t e) : EReal))
      = fun t => softmax (score (fun t d => x (ix3 0 t d)) (fun d e => wr (ix2 d e)) (fun e => br (ix1 e)) t) :=
    funext fun t => funext fun e => by
      rw [probs_apply]
      refine congrArg (fun l => softmax l e) (funext fun k => ?_)
      rw [logits_apply]
      rfl
  refine ⟨best (probs (logits x wr br)), next (probs (logits x wr br)), fun t => ?_, fun n => ?_⟩
  · have h := top (probs (logits x wr br)) t
    rw [congrFun hp t] at h
    exact h
  · rw [classified_apply]
    simp only [pooledOf_eq, hp]

/-- On tokens and a router matrix without infinities the kernel's result is the reference's. -/
theorem results_eq
    (m : (ℓ : Loc Cert.KernelIdeal.nD Cert.KernelIdeal.τ Cert.KernelIdeal.sig) → Buf (Elt Ideal) ℓ) (c : Dev Cert.KernelIdeal.nD)
    (hx : ∀ t d, KernelValue.tokens m c t d ≠ ⊤ ∧ KernelValue.tokens m c t d ≠ ⊥)
    (hw : ∀ d e, KernelValue.router m c d e ≠ ⊤ ∧ KernelValue.router m c d e ≠ ⊥) :
    classified (F := Ideal) (pooledOf (probs (logits (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
    = Cert.KernelIdeal.Value.G9 m c := by
  obtain ⟨i, j, top, h⟩ := reference_eq (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
  have k := KernelValue.result_eq m c (routed (KernelValue.routerBias m c) hx hw (i := i) (j := j) top)
  funext q
  obtain ⟨n, rfl⟩ : ∃ n : Fin 10, q = ix2 0 n :=
    ⟨q 1, funext fun a => match a with
      | ⟨0, _⟩ => Subsingleton.elim (α := Fin 1) _ _
      | ⟨1, _⟩ => rfl⟩
  exact (h n).trans (k n).symm

end Cert.Equation
-- ==== Proof.Finite.lean ====
module

public import proofs.«01_k».proof.Pre_finite
public import proofs.«01_k».proof.Proof.Numbers
public import Idealize.ShloMosaic.Lib.ReduceAll
public import Idealize.ShloMosaic.Lib.Pointwise

@[expose] public section

set_option maxRecDepth 16384

noncomputable section

/-! # What the precondition says -/

namespace Cert.Finite

open Cert.Pre_finite Cert.Numbers
open Idealize.ShloMosaic Idealize.ShloMosaic.Pointwise

/-- The side conditions of the precondition's operations hold. -/
theorem facts : Cert.Pre_finite.Facts := ⟨by decide, by decide, by decide, by decide, by decide⟩

/-- A value whose absolute value compares below infinity is no infinity. -/
theorem of_below (a : EReal) (h : Ideal.cmp .olt (max a (-a)) (Ideal.ofBits .f32 0x7F800000#32) = 1#1) : a ≠ ⊤ ∧ a ≠ ⊥ := by
  rw [show Ideal.ofBits .f32 0x7F800000#32 = ⊤ from bits_top] at h
  have hlt : max a (-a) < ⊤ := by
    by_contra hn
    rw [show Ideal.cmp .olt (max a (-a)) ⊤ = BitVec.ofBool (decide (max a (-a) < ⊤)) from rfl, decide_eq_false hn] at h
    exact absurd h (by decide)
  refine ⟨fun e => ?_, fun e => ?_⟩
  · rw [e] at hlt
    simp at hlt
  · rw [e] at hlt
    simp at hlt

/-- A conjunction of two yes-or-no words. -/
theorem both_ones (a b : BitVec 1) (h : IntOp.andi a b = 1#1) : a = 1#1 ∧ b = 1#1 := by
  revert a b
  decide

/-- The precondition says that no element of the tokens or of the router's matrix is infinite. -/
theorem of_pre [Cert.Pre_finite.Facts] (x : FVec Ideal S1x2048x1024 .f32) (wr : FVec Ideal S1024x8 .f32) (a2 a3 a4 a5 a6 a7 a8)
    (h : Cert.Pre_finite.fn (F := Ideal) x wr a2 a3 a4 a5 a6 a7 a8 = fun _ => 1#1) :
    (∀ i, (x i : EReal) ≠ ⊤ ∧ (x i : EReal) ≠ ⊥) ∧ ∀ i, (wr i : EReal) ≠ ⊤ ∧ (wr i : EReal) ≠ ⊥ := by
  have h0 := both_ones _ _ (congrFun h ix0)
  haveI : Subsingleton S_.Idx := ⟨fun a b => funext fun q => q.elim0⟩
  exact ⟨fun i => of_below _ (Host.reduce_andi_all _ _ _ _ _ h0.1 i), fun i => of_below _ (Host.reduce_andi_all _ _ _ _ _ h0.2 i)⟩

end Cert.Finite
-- ==== Proof.lean ====
/- The certificate: each program runs and leaves its arguments, and on the precondition the kernel's result is the
   reference's. The equation of the two results is proved in Proof/Equation.lean. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import proofs.«01_k».proof.Proof.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Idealize.ShloMosaic.Pointwise

/-- The reference runs, leaves its arguments and no semaphore counts, from any memory. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On tokens and a router matrix without infinities, the kernel and the reference end with equal results. -/
theorem algebraic : algebraic_KernelIdeal_ReferenceIdeal_pre_finite (hPre_finite := Cert.Finite.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  haveI := Cert.Finite.facts
  have hf := Cert.Finite.of_pre _ _ _ _ _ _ _ _ _ (hpre c)
  refine (Cert.ReferenceStages.result_eq m' c).trans ?_
  simp only [hagree c]
  exact Cert.Equation.results_eq m c (fun t d => hf.1 (ix3 0 t d)) fun d e => hf.2 (ix2 d e)

/-- Everything claimed. -/
theorem claim : Cert.Claim := ⟨Cert.Kernel.Gen.facts, Cert.KernelIdeal.Gen.facts, Cert.ReferenceIdeal.Gen.facts, Cert.Finite.facts,
  fun m ρ _ => Cert.Kernel.Gen.frame m ρ, fun m ρ _ => Cert.KernelIdeal.Gen.frame m ρ, fun m ρ _ => Cert.KernelIdeal.Gen.frame m ρ,
  reference_quiescent, fun m ρ _ => reference_quiescent m ρ trivial, (trivial : preserves_Kernel_KernelIdeal), algebraic⟩

end Cert.Proof

end
